-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x4096 : Shape := ⟨3, ![1, 128, 4096]⟩
abbrev S14336x2048 : Shape := ⟨2, ![14336, 2048]⟩
abbrev S14336x256 : Shape := ⟨2, ![14336, 256]⟩
abbrev S1 : Shape := ⟨1, ![1]⟩
abbrev S128x4096 : Shape := ⟨2, ![128, 4096]⟩
abbrev S128x14336 : Shape := ⟨2, ![128, 14336]⟩
abbrev S128x2048 : Shape := ⟨2, ![128, 2048]⟩
abbrev S128x256 : Shape := ⟨2, ![128, 256]⟩
abbrev S1x128 : Shape := ⟨2, ![1, 128]⟩
abbrev S1024x2048 : Shape := ⟨2, ![1024, 2048]⟩
abbrev S1024x256 : Shape := ⟨2, ![1024, 256]⟩
abbrev S128x1024 : Shape := ⟨2, ![128, 1024]⟩
abbrev S256x128 : Shape := ⟨2, ![256, 128]⟩
abbrev S256x1024 : Shape := ⟨2, ![256, 1024]⟩
abbrev S128x512 : Shape := ⟨2, ![128, 512]⟩
abbrev S512x128 : Shape := ⟨2, ![512, 128]⟩
abbrev S32x16x128 : Shape := ⟨3, ![32, 16, 128]⟩
abbrev S32x128 : Shape := ⟨2, ![32, 128]⟩
abbrev S128 : Shape := ⟨1, ![128]⟩
abbrev S1x1 : Shape := ⟨2, ![1, 1]⟩
abbrev S32x1x128 : Shape := ⟨3, ![32, 1, 128]⟩
abbrev S256x2x128 : Shape := ⟨3, ![256, 2, 128]⟩
abbrev S256x1x128 : Shape := ⟨3, ![256, 1, 128]⟩
abbrev S128x128 : Shape := ⟨2, ![128, 128]⟩
abbrev S128x1x256 : Shape := ⟨3, ![128, 1, 256]⟩
abbrev S128x2x256 : Shape := ⟨3, ![128, 2, 256]⟩
abbrev S256x256 : Shape := ⟨2, ![256, 256]⟩
abbrev S1x256 : Shape := ⟨2, ![1, 256]⟩
abbrev S16x256 : Shape := ⟨2, ![16, 256]⟩

abbrev nBuf : Space → Nat
  | .hbm => 9
  | .vmem => 15
  | .smem => 1
  | _ => 0

abbrev bufTy : (tb : Table) → Fin (tcTables nBuf tb) → BufTy
  | .hbm, ⟨0, _⟩ => ⟨S1x128x4096, .bf16⟩
  | .hbm, ⟨1, _⟩ => ⟨S14336x2048, .i8⟩
  | .hbm, ⟨2, _⟩ => ⟨S14336x256, .fp8e4m3⟩
  | .hbm, ⟨3, _⟩ => ⟨S1, .f32⟩
  | .hbm, ⟨4, _⟩ => ⟨S128x4096, .bf16⟩
  | .hbm, ⟨5, _⟩ => ⟨S128x14336, .bf16⟩
  | .hbm, ⟨6, _⟩ => ⟨S128x2048, .i8⟩
  | .hbm, ⟨7, _⟩ => ⟨S128x256, .fp8e4m3⟩
  | .hbm, ⟨8, _⟩ => ⟨S1x128, .f32⟩
  | .local _ .vmem, ⟨0, _⟩ => ⟨S128x4096, .bf16⟩
  | .local _ .vmem, ⟨1, _⟩ => ⟨S1024x2048, .i8⟩
  | .local _ .vmem, ⟨2, _⟩ => ⟨S1024x2048, .i8⟩
  | .local _ .vmem, ⟨3, _⟩ => ⟨S1024x256, .fp8e4m3⟩
  | .local _ .vmem, ⟨4, _⟩ => ⟨S1024x256, .fp8e4m3⟩
  | .local _ .vmem, ⟨5, _⟩ => ⟨S128x1024, .bf16⟩
  | .local _ .vmem, ⟨6, _⟩ => ⟨S128x1024, .bf16⟩
  | .local _ .vmem, ⟨7, _⟩ => ⟨S128x2048, .i8⟩
  | .local _ .vmem, ⟨8, _⟩ => ⟨S128x256, .fp8e4m3⟩
  | .local _ .vmem, ⟨9, _⟩ => ⟨S1x128, .f32⟩
  | .local _ .vmem, ⟨10, _⟩ => ⟨S128x4096, .bf16⟩
  | .local _ .vmem, ⟨11, _⟩ => ⟨S256x128, .f32⟩
  | .local _ .vmem, ⟨12, _⟩ => ⟨S256x128, .f32⟩
  | .local _ .vmem, ⟨13, _⟩ => ⟨S1x128, .f32⟩
  | .local _ .vmem, ⟨14, _⟩ => ⟨S256x1024, .f32⟩
  | .local _ .smem, ⟨0, _⟩ => ⟨S1, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x128x4096 : Shape := ⟨3, ![1, 128, 4096]⟩
abbrev S14336x2048 : Shape := ⟨2, ![14336, 2048]⟩
abbrev S14336x256 : Shape := ⟨2, ![14336, 256]⟩
abbrev S1 : Shape := ⟨1, ![1]⟩
abbrev S128x14336 : Shape := ⟨2, ![128, 14336]⟩
abbrev S128x2048 : Shape := ⟨2, ![128, 2048]⟩
abbrev S128x256 : Shape := ⟨2, ![128, 256]⟩
abbrev S1x128 : Shape := ⟨2, ![1, 128]⟩
abbrev S128x4096 : Shape := ⟨2, ![128, 4096]⟩
abbrev S2x64x256x16 : Shape := ⟨4, ![2, 64, 256, 16]⟩
abbrev S2 : Shape := ⟨1, ![2]⟩
abbrev S2x1x1x1 : Shape := ⟨4, ![2, 1, 1, 1]⟩
abbrev S2x64x256 : Shape := ⟨3, ![2, 64, 256]⟩
abbrev S2x64x256x1 : Shape := ⟨4, ![2, 64, 256, 1]⟩
abbrev S128x2048x2 : Shape := ⟨3, ![128, 2048, 2]⟩
abbrev S128x2048x1 : Shape := ⟨3, ![128, 2048, 1]⟩
abbrev S128x256x8 : Shape := ⟨3, ![128, 256, 8]⟩
abbrev S128x256x1 : Shape := ⟨3, ![128, 256, 1]⟩
abbrev S14336x256x8 : Shape := ⟨3, ![14336, 256, 8]⟩
abbrev S14336x256x1 : Shape := ⟨3, ![14336, 256, 1]⟩
abbrev S2x1x1 : Shape := ⟨3, ![2, 1, 1]⟩
abbrev S2x64x1 : Shape := ⟨3, ![2, 64, 1]⟩
abbrev S128x1 : Shape := ⟨2, ![128, 1]⟩

abbrev nBuf : Space → Nat
  | .hbm => 8
  | .vmem => 7
  | .smem => 1
  | _ => 0

abbrev bufTy : (tb : Table) → Fin (tcTables nBuf tb) → BufTy
  | .hbm, ⟨0, _⟩ => ⟨S1x128x4096, .bf16⟩
  | .hbm, ⟨1, _⟩ => ⟨S14336x2048, .i8⟩
  | .hbm, ⟨2, _⟩ => ⟨S14336x256, .fp8e4m3⟩
  | .hbm, ⟨3, _⟩ => ⟨S1, .f32⟩
  | .hbm, ⟨4, _⟩ => ⟨S128x14336, .bf16⟩
  | .hbm, ⟨5, _⟩ => ⟨S128x2048, .i8⟩
  | .hbm, ⟨6, _⟩ => ⟨S128x256, .fp8e4m3⟩
  | .hbm, ⟨7, _⟩ => ⟨S1x128, .f32⟩
  | .local _ .vmem, ⟨0, _⟩ => ⟨S1x128x4096, .bf16⟩
  | .local _ .vmem, ⟨1, _⟩ => ⟨S14336x2048, .i8⟩
  | .local _ .vmem, ⟨2, _⟩ => ⟨S14336x256, .fp8e4m3⟩
  | .local _ .vmem, ⟨3, _⟩ => ⟨S128x14336, .bf16⟩
  | .local _ .vmem, ⟨4, _⟩ => ⟨S128x2048, .i8⟩
  | .local _ .vmem, ⟨5, _⟩ => ⟨S128x256, .fp8e4m3⟩
  | .local _ .vmem, ⟨6, _⟩ => ⟨S1x128, .f32⟩
  | .local _ .smem, ⟨0, _⟩ => ⟨S1, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x14336 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.RunBase.lean ====
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x2048 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x4096 .bf16 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S1x128 .f32 := Memref.whole cc0_scratch3
abbrev scM0_4 : Memref sig .tc .vmem S256x1024 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.RunA.lean ====
module

public import proofs.«01_k».proof.Proof.RunBase

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first point, where the quantiser runs: on whole staging memrefs with the four inputs at
    `x0 … x3` it ends with the inputs as they were and the four outputs and the scratch of quantised activations
    at the pieces this run finds (`L4` the product, `L5` the codes, `L6` the block scales, `L7` the segment scales,
    `LX` the quantised activations), the other scratch at anything. -/
noncomputable def kernelRunA (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : cond0_0 i)
    (x0 : Vec F S1 .f32) (x1 : Vec F S128x4096 .bf16) (x2 : Vec F S1024x2048 .i8) (x3 : Vec F S1024x256 .fp8e4m3) :
    Σ' (L4 : List (View.Piece (Elt F) S128x1024 .bf16)), Σ' (L5 : List (View.Piece (Elt F) S128x2048 .i8)), Σ' (L6 : List (View.Piece (Elt F) S128x256 .fp8e4m3)), Σ' (L7 : List (View.Piece (Elt F) S1x128 .f32)), { LX : List (View.Piece (Elt F) S128x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LX) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_nvfp4_linear i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_nvfp4_linear_eq_skeleton]; unfold cc0_nvfp4_linear_skel
    simp only [k0_part178_eq_skeleton, k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part179_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part180_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf1; obtain rfl := harg2.eq_unread hf2; obtain rfl := harg3.eq_unread hf3; obtain rfl := harg4.eq_unread hf4
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

end Cert.KernelIdeal.Gen

end
-- ==== Proof.RunB.lean ====
module

public import proofs.«01_k».proof.Proof.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a later point, where the quantiser does not run: the codes, block scales, segment scales and
    quantised activations are read or left alone and end as they were; the product ends at the pieces `L4` this run
    finds. -/
noncomputable def kernelRunB (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : ¬cond0_0 i)
    (x0 : Vec F S1 .f32) (x1 : Vec F S128x4096 .bf16) (x2 : Vec F S1024x2048 .i8) (x3 : Vec F S1024x256 .fp8e4m3) (y5 : Vec F S128x2048 .i8) (y6 : Vec F S128x256 .fp8e4m3) (y7 : Vec F S1x128 .f32) (xq : Vec F S128x4096 .bf16) :
    { L4 : List (View.Piece (Elt F) S128x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare y5 ∗ owns (c : Thread nD τ) arg7 fullShare y6 ∗ owns (c : Thread nD τ) arg8 fullShare y7 ∗ owns (c : Thread nD τ) arg9 fullShare xq ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare y5 ∗ owns (c : Thread nD τ) arg7 fullShare y6 ∗ owns (c : Thread nD τ) arg8 fullShare y7 ∗ owns (c : Thread nD τ) arg9 fullShare xq ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_nvfp4_linear i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_nvfp4_linear_eq_skeleton]; unfold cc0_nvfp4_linear_skel
    simp only [k0_part178_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part179_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part180_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg1.eq_unread hf1; obtain rfl := harg2.eq_unread hf2; obtain rfl := harg3.eq_unread hf3; obtain rfl := harg4.eq_unread hf4; obtain rfl := harg6.eq_unread hf6; obtain rfl := harg7.eq_unread hf7; obtain rfl := harg8.eq_unread hf8; obtain rfl := harg9.eq_unread hf9
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

end Cert.KernelIdeal.Gen

end
-- ==== Proof.Tile.lean ====
module

public import proofs.«01_k».proof.Proof.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The sixteen rows of block scales of a weight tile, each repeated over the sixteen rows of its block. -/
def scTile (r : Fin 16 → Vec F S1x256 .f32) : FVec F S256x256 .bf16 :=
  concatenate S256x256 0 [⟨S16x256, k0_pay1039 (r 0)⟩, ⟨S16x256, k0_pay1039 (r 1)⟩, ⟨S16x256, k0_pay1039 (r 2)⟩, ⟨S16x256, k0_pay1039 (r 3)⟩, ⟨S16x256, k0_pay1039 (r 4)⟩, ⟨S16x256, k0_pay1039 (r 5)⟩, ⟨S16x256, k0_pay1039 (r 6)⟩, ⟨S16x256, k0_pay1039 (r 7)⟩, ⟨S16x256, k0_pay1039 (r 8)⟩, ⟨S16x256, k0_pay1039 (r 9)⟩, ⟨S16x256, k0_pay1039 (r 10)⟩, ⟨S16x256, k0_pay1039 (r 11)⟩, ⟨S16x256, k0_pay1039 (r 12)⟩, ⟨S16x256, k0_pay1039 (r 13)⟩, ⟨S16x256, k0_pay1039 (r 14)⟩, ⟨S16x256, k0_pay1039 (r 15)⟩] concatenates_S16x256_S16x256_S16x256_S16x256_S16x256_S16x256_S16x256_S16x256_S16x256_S16x256_S16x256_S16x256_S16x256_S16x256_S16x256_S16x256_S256x256_d0

/-- One step of the product: the accumulator plus the activation tile times the decoded, scaled weight tile. -/
def stepTile (acc : FVec F S128x256 .f32) (x : Vec F S128x256 .bf16) (w : Vec F S256x128 .i8)
    (r : Fin 16 → Vec F S1x256 .f32) : FVec F S128x256 .f32 :=
  addf acc (matmul dot_S128x256_S256x256_S128x256_1_0_0_1_n_n none x (mulf (k0_pay1038 w) (scTile r))
    (constant S128x256 .f32 0x00000000#32))

/-- The accumulator after `n` of the sixteen steps. -/
def accTile (x : Fin 16 → Vec F S128x256 .bf16) (w : Fin 16 → Vec F S256x128 .i8)
    (r : Fin 16 → Fin 16 → Vec F S1x256 .f32) : (n : ℕ) → n ≤ 16 → FVec F S128x256 .f32
  | 0, _ => broadcast S128x256 (Scalar.ofBits .f32 0x00000000#32)
  | n + 1, h => stepTile (accTile x w r n (Nat.le_of_succ_le h)) (x ⟨n, h⟩) (w ⟨n, h⟩) (r ⟨n, h⟩)

/-- One column tile of the product: the accumulator times the token scales times the weight's global scale. -/
def outTile (x : Fin 16 → Vec F S128x256 .bf16) (w : Fin 16 → Vec F S256x128 .i8)
    (r : Fin 16 → Fin 16 → Vec F S1x256 .f32) (g : Vec F S1x128 .f32) (wg : Elt F .f32) : FVec F S128x256 .bf16 :=
  truncf .bf16 (mulf (mulf (accTile x w r 16 le_rfl) (k0_pay101 g)) (broadcast S128x256 wg)) bitsLt_bf16_f32

/-- Step `k`'s columns of the activations. -/
abbrev rX (k : Fin 16) : Rect S128x4096 := Rect.unit ![0, 256 * k.val] S128x256.size (by
  have := k.isLt; intro a; fin_cases a
  · exact (by decide : 0 + 128 ≤ 128)
  · exact (by omega : 256 * k.val + 256 ≤ 4096))
/-- Column tile `n`'s rows and step `k`'s columns of the weight codes. -/
abbrev rW (n : Fin 4) (k : Fin 16) : Rect S1024x2048 := Rect.unit ![256 * n.val, 128 * k.val] S256x128.size (by
  have := k.isLt; have := n.isLt; intro a; fin_cases a
  · exact (by omega : 256 * n.val + 256 ≤ 1024)
  · exact (by omega : 128 * k.val + 128 ≤ 2048))
/-- The row of block `b` of step `k` in the transposed block scales, at column tile `n`. -/
abbrev rS (n : Fin 4) (k b : Fin 16) : Rect S256x1024 := Rect.unit ![16 * k.val + b.val, 256 * n.val] S1x256.size (by
  have := k.isLt; have := n.isLt; have := b.isLt; intro a; fin_cases a
  · exact (by omega : 16 * k.val + b.val + 1 ≤ 256)
  · exact (by omega : 256 * n.val + 256 ≤ 1024))
/-- Column tile `n` of the product. -/
abbrev rO (n : Fin 4) : Rect S128x1024 := Rect.unit ![0, 256 * n.val] S128x256.size (by
  have := n.isLt; intro a; fin_cases a
  · exact (by decide : 0 + 128 ≤ 128)
  · exact (by omega : 256 * n.val + 256 ≤ 1024))

/-- The four column tiles of a point's block of the product, last first. -/
def outPieces (x : Fin 16 → Vec F S128x256 .bf16) (w : Fin 4 → Fin 16 → Vec F S256x128 .i8)
    (r : Fin 4 → Fin 16 → Fin 16 → Vec F S1x256 .f32) (g : Vec F S1x128 .f32) (wg : Elt F .f32) :
    List (View.Piece (Elt F) S128x1024 .bf16) :=
  [⟨rO 3, outTile x (w 3) (r 3) g wg⟩, ⟨rO 2, outTile x (w 2) (r 2) g wg⟩,
   ⟨rO 1, outTile x (w 1) (r 1) g wg⟩, ⟨rO 0, outTile x (w 0) (r 0) g wg⟩]

end Cert.KernelIdeal.Gen

end
-- ==== Proof.Quant.lean ====
module

public import proofs.«01_k».proof.Proof.Tile

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Column chunk `c` of the activations, 512 columns. -/
abbrev rXc (c : Fin 8) : Rect S128x4096 := Rect.unit ![0, 512 * c.val] S128x512.size (by
  have := c.isLt; intro a; fin_cases a
  · exact (by decide : 0 + 128 ≤ 128)
  · exact (by omega : 512 * c.val + 512 ≤ 4096))
/-- The rows of chunk `c`'s 32 blocks. -/
abbrev rT (c : Fin 8) : Rect S256x128 := Rect.unit ![32 * c.val, 0] S32x128.size (by
  have := c.isLt; intro a; fin_cases a
  · exact (by omega : 32 * c.val + 32 ≤ 256)
  · exact (by decide : 0 + 128 ≤ 128))
/-- The 256 columns of packed codes of chunk `c`. -/
abbrev rCc (c : Fin 8) : Rect S128x2048 := Rect.unit ![0, 256 * c.val] S128x256.size (by
  have := c.isLt; intro a; fin_cases a
  · exact (by decide : 0 + 128 ≤ 128)
  · exact (by omega : 256 * c.val + 256 ≤ 2048))

/-- The largest e4m3 number, 448. -/
abbrev cE4M3 : F .f32 := Scalar.ofBits .f32 0x43E00000#32

/-- The rounded quotients of a chunk, with their signs. -/
def valC (x : Vec F S128x512 .bf16) (den : Vec F S32x128 .f32) : FVec F S512x128 .f32 :=
  k0_pay24 (k0_pay20 x) (k0_pay21 x den) (k0_pay22 x den) k0_pay23
/-- A chunk's quantised activations, back at the block scale. -/
def xqC (x : Vec F S128x512 .bf16) (den sc : Vec F S32x128 .f32) : FVec F S128x512 .bf16 :=
  k0_pay25 (k0_pay20 x) sc (k0_pay21 x den) (k0_pay22 x den) k0_pay23
/-- A chunk's packed codes. -/
def codeC (x : Vec F S128x512 .bf16) (den : Vec F S32x128 .f32) : IVec S128x256 8 :=
  k0_pay30 (k0_pay28 (valC x den) (absf (valC x den)) 0#32) (k0_pay29 (valC x den) (absf (valC x den)) 0#32)

/-- The block maxima, chunk by chunk. -/
def tPieces (x : Fin 8 → Vec F S128x512 .bf16) : List (View.Piece (Elt F) S256x128 .f32) :=
  [⟨rT 7, k0_pay3 (x 7)⟩,
   ⟨rT 6, k0_pay3 (x 6)⟩,
   ⟨rT 5, k0_pay3 (x 5)⟩,
   ⟨rT 4, k0_pay3 (x 4)⟩,
   ⟨rT 3, k0_pay3 (x 3)⟩,
   ⟨rT 2, k0_pay3 (x 2)⟩,
   ⟨rT 1, k0_pay3 (x 1)⟩,
   ⟨rT 0, k0_pay3 (x 0)⟩]
/-- The quantised activations, chunk by chunk. -/
def xqPieces (x : Fin 8 → Vec F S128x512 .bf16) (den sc : Fin 8 → Vec F S32x128 .f32) : List (View.Piece (Elt F) S128x4096 .bf16) :=
  [⟨rXc 7, xqC (x 7) (den 7) (sc 7)⟩,
   ⟨rXc 6, xqC (x 6) (den 6) (sc 6)⟩,
   ⟨rXc 5, xqC (x 5) (den 5) (sc 5)⟩,
   ⟨rXc 4, xqC (x 4) (den 4) (sc 4)⟩,
   ⟨rXc 3, xqC (x 3) (den 3) (sc 3)⟩,
   ⟨rXc 2, xqC (x 2) (den 2) (sc 2)⟩,
   ⟨rXc 1, xqC (x 1) (den 1) (sc 1)⟩,
   ⟨rXc 0, xqC (x 0) (den 0) (sc 0)⟩]
/-- The packed codes, chunk by chunk. -/
def codePieces (x : Fin 8 → Vec F S128x512 .bf16) (den : Fin 8 → Vec F S32x128 .f32) : List (View.Piece (Elt F) S128x2048 .i8) :=
  [⟨rCc 7, codeC (x 7) (den 7)⟩,
   ⟨rCc 6, codeC (x 6) (den 6)⟩,
   ⟨rCc 5, codeC (x 5) (den 5)⟩,
   ⟨rCc 4, codeC (x 4) (den 4)⟩,
   ⟨rCc 3, codeC (x 3) (den 3)⟩,
   ⟨rCc 2, codeC (x 2) (den 2)⟩,
   ⟨rCc 1, codeC (x 1) (den 1)⟩,
   ⟨rCc 0, codeC (x 0) (den 0)⟩]

/-- All of the block maxima. -/
abbrev rAll : Rect S256x128 := Rect.unit ![0, 0] S256x128.size inb_S256x128_S256x128_0_0
/-- The block denominators as the one piece stored. -/
abbrev dPieces (T : Vec F S256x128 .f32) : List (View.Piece (Elt F) S256x128 .f32) :=
  [⟨rAll, k0_pay18 (k0_pay13 T) cE4M3 (k0_pay14 T)⟩]
/-- The block scales, stored over the block maxima. -/
abbrev sPieces (T : Vec F S256x128 .f32) (L : List (View.Piece (Elt F) S256x128 .f32)) : List (View.Piece (Elt F) S256x128 .f32) :=
  ⟨rAll, k0_pay19 cE4M3 (k0_pay14 T)⟩ :: L

set_option maxHeartbeats 2000000 in
/-- The pieces of the codes found by the run. -/
theorem quantCodes (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : cond0_0 i)
    (x0 : Vec F S1 .f32) (x1 : Vec F S128x4096 .bf16) (x2 : Vec F S1024x2048 .i8) (x3 : Vec F S1024x256 .fp8e4m3) :
    (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.1
      = codePieces (fun q => arg2.view.readAt (Elt F) (rXc q).toLoadRect (harg2.unread x1))
        (fun q => arg11.view.readCov (dPieces (arg10.view.readCov (tPieces (fun q => arg2.view.readAt (Elt F) (rXc q).toLoadRect (harg2.unread x1))) rAll.toLoadRect)) (rT q).toLoadRect) := by
  sl_kernel_rfl

set_option maxHeartbeats 2000000 in
/-- The piece of the block scales found by the run. -/
theorem quantScales (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : cond0_0 i)
    (x0 : Vec F S1 .f32) (x1 : Vec F S128x4096 .bf16) (x2 : Vec F S1024x2048 .i8) (x3 : Vec F S1024x256 .fp8e4m3) :
    (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.1
      = [⟨Rect.unit ![0, 0] S128x256.size inb_S128x256_S128x256_0_0, k0_pay17 cE4M3 (k0_pay14 (arg10.view.readCov (tPieces (fun q => arg2.view.readAt (Elt F) (rXc q).toLoadRect (harg2.unread x1))) rAll.toLoadRect))⟩] := by
  sl_kernel_rfl

set_option maxHeartbeats 2000000 in
/-- The piece of the segment scales found by the run. -/
theorem quantG (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : cond0_0 i)
    (x0 : Vec F S1 .f32) (x1 : Vec F S128x4096 .bf16) (x2 : Vec F S1024x2048 .i8) (x3 : Vec F S1024x256 .fp8e4m3) :
    (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.1
      = [⟨Rect.unit ![0, 0] S1x128.size inb_S1x128_S1x128_0_0, k0_pay13 (arg10.view.readCov (tPieces (fun q => arg2.view.readAt (Elt F) (rXc q).toLoadRect (harg2.unread x1))) rAll.toLoadRect)⟩] := by
  sl_kernel_rfl

set_option maxHeartbeats 2000000 in
/-- The pieces of the quantised activations found by the run. -/
theorem quantXq (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : cond0_0 i)
    (x0 : Vec F S1 .f32) (x1 : Vec F S128x4096 .bf16) (x2 : Vec F S1024x2048 .i8) (x3 : Vec F S1024x256 .fp8e4m3) :
    (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.1
      = xqPieces (fun q => arg2.view.readAt (Elt F) (rXc q).toLoadRect (harg2.unread x1))
        (fun q => arg11.view.readCov (dPieces (arg10.view.readCov (tPieces (fun q => arg2.view.readAt (Elt F) (rXc q).toLoadRect (harg2.unread x1))) rAll.toLoadRect)) (rT q).toLoadRect)
        (fun q => arg10.view.readCov (sPieces (arg10.view.readCov (tPieces (fun q => arg2.view.readAt (Elt F) (rXc q).toLoadRect (harg2.unread x1))) rAll.toLoadRect) (tPieces (fun q => arg2.view.readAt (Elt F) (rXc q).toLoadRect (harg2.unread x1)))) (rT q).toLoadRect) := by
  sl_kernel_rfl

end Cert.KernelIdeal.Gen

end
-- ==== Proof.PiecesA.lean ====
module

public import proofs.«01_k».proof.Proof.Tile

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces of the product found by the run in case A are the four column tiles. -/
theorem piecesA (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : cond0_0 i)
    (x0 : Vec F S1 .f32) (x1 : Vec F S128x4096 .bf16) (x2 : Vec F S1024x2048 .i8) (x3 : Vec F S1024x256 .fp8e4m3) :
    (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).1
      = outPieces (fun k => arg9.view.readCov (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.1 (rX k).toLoadRect)
        (fun n k => arg3.view.readAt (Elt F) (rW n k).toLoadRect (harg3.unread x2))
        (fun n k b => arg13.view.readCov (kernelRunA.sl.H13_1 c arg4 harg4 x3) (rS n k b).toLoadRect)
        (arg8.view.readCov (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.1 (Rect.unit ![0, 0] S1x128.size inb_S1x128_S1x128_0_0).toLoadRect)
        (arg1.view.readAt (Elt F) (Rect.unit ![0] ![1] inb_S1_S1_0).toLoadRect (harg1.unread x0) (Shape.Idx.first (by decide))) := by
  sl_kernel_rfl

end Cert.KernelIdeal.Gen

end
-- ==== Proof.PiecesB.lean ====
module

public import proofs.«01_k».proof.Proof.Tile

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces of the product found by the run in case B are the four column tiles. -/
theorem piecesB (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : ¬cond0_0 i)
    (x0 : Vec F S1 .f32) (x1 : Vec F S128x4096 .bf16) (x2 : Vec F S1024x2048 .i8) (x3 : Vec F S1024x256 .fp8e4m3) (y5 : Vec F S128x2048 .i8) (y6 : Vec F S128x256 .fp8e4m3) (y7 : Vec F S1x128 .f32) (xq : Vec F S128x4096 .bf16) :
    (kernelRunB c i arg1 harg1 arg2 harg2 arg3 harg3 arg4 harg4 arg5 harg5 arg6 harg6 arg7 harg7 arg8 harg8 arg9 harg9 arg10 harg10 arg11 harg11 arg12 harg12 arg13 harg13 hc0 x0 x1 x2 x3 y5 y6 y7 xq).1
      = outPieces (fun k => arg9.view.readAt (Elt F) (rX k).toLoadRect (harg9.unread xq))
        (fun n k => arg3.view.readAt (Elt F) (rW n k).toLoadRect (harg3.unread x2))
        (fun n k b => arg13.view.readCov (kernelRunB.sl.H13_1 c arg4 harg4 x3) (rS n k b).toLoadRect)
        (arg8.view.readAt (Elt F) (Rect.unit ![0, 0] S1x128.size inb_S1x128_S1x128_0_0).toLoadRect (harg8.unread y7))
        (arg1.view.readAt (Elt F) (Rect.unit ![0] ![1] inb_S1_S1_0).toLoadRect (harg1.unread x0) (Shape.Idx.first (by decide))) := by
  sl_kernel_rfl

end Cert.KernelIdeal.Gen

end
-- ==== Proof.RunVal.lean ====
module

public import proofs.«01_k».proof.Proof.Quant
public import proofs.«01_k».proof.Proof.PiecesA
public import proofs.«01_k».proof.Proof.PiecesB
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A covered load through a rectangle reads what the stores leave. -/
theorem readCov_ld {sp : Space} {s : Shape} {e : EltTy} (v : View sig .tc sp s e) (L : List (View.Piece (Elt F) s e)) (r : Rect s) :
    v.readCov L r.toLoadRect = View.ld (View.canon L) r := View.readCov_eq_canon' v L r.toLoadRect

/-- A load of a whole memref's named contents reads them. -/
theorem readAt_unread_ld {sp : Space} {s : Shape} {e : EltTy} (a : Memref sig .tc sp s e) (h : a.IsWhole) (x : Vec F s e) (r : Rect s) :
    a.view.readAt (Elt F) r.toLoadRect (h.unread x) = View.ld x r := by
  rw [View.readAt_eq_ld, h.read_unread]

/-- The same for a family of loads. -/
theorem readCov_fun {ι : Type} {sp : Space} {s : Shape} {e : EltTy} (v : View sig .tc sp s e) (L : List (View.Piece (Elt F) s e)) (r : ι → Rect s) :
    (fun q => v.readCov L (r q).toLoadRect) = fun q => View.ld (View.canon L) (r q) := funext fun q => readCov_ld v L (r q)
theorem readCov_fun2 {ι κ : Type} {sp : Space} {s : Shape} {e : EltTy} (v : View sig .tc sp s e) (L : List (View.Piece (Elt F) s e)) (r : ι → κ → Rect s) :
    (fun q p => v.readCov L (r q p).toLoadRect) = fun q p => View.ld (View.canon L) (r q p) := funext fun q => funext fun p => readCov_ld v L (r q p)
theorem readAt_fun {ι : Type} {sp : Space} {s : Shape} {e : EltTy} (a : Memref sig .tc sp s e) (h : a.IsWhole) (x : Vec F s e) (r : ι → Rect s) :
    (fun q => a.view.readAt (Elt F) (r q).toLoadRect (h.unread x)) = fun q => View.ld x (r q) := funext fun q => readAt_unread_ld a h x (r q)

theorem zero2 : (![0, 0] : Fin 2 → ℕ) = fun _ => 0 := by decide

/-- A load of a whole buffer reads its contents, and a store of a whole buffer leaves its payload, at each shape met. -/
theorem ldT (X : Vec F S256x128 .f32) (h) : View.ld X (Rect.unit ![0, 0] S256x128.size h) = X := View.ld_unit_zero (S := S256x128) zero2 h X
theorem ldG (X : Vec F S1x128 .f32) (h) : View.ld X (Rect.unit ![0, 0] S1x128.size h) = X := View.ld_unit_zero (S := S1x128) zero2 h X
theorem ldW (X : Vec F S1024x256 .fp8e4m3) (h) : View.ld X (Rect.unit ![0, 0] S1024x256.size h) = X := View.ld_unit_zero (S := S1024x256) zero2 h X
theorem outPieces_congr {x x' : Fin 16 → Vec F S128x256 .bf16} {w w' : Fin 4 → Fin 16 → Vec F S256x128 .i8}
    {r r' : Fin 4 → Fin 16 → Fin 16 → Vec F S1x256 .f32} {g g' : Vec F S1x128 .f32} {wg wg' : Elt F .f32}
    (hx : x = x') (hw : w = w') (hr : r = r') (hg : g = g') (hwg : wg = wg') : outPieces x w r g wg = outPieces x' w' r' g' wg' := by
  subst hx hw hr hg hwg; rfl
theorem ldF (X : Vec F S1 .f32) (h) : View.ld X (Rect.unit ![0] S1.size h) = X := View.ld_unit_zero (S := S1) (by decide) h X
theorem cnT (X : Vec F S256x128 .f32) (h) (L) : View.canon ((⟨Rect.unit ![0, 0] S256x128.size h, X⟩ : View.Piece (Elt F) S256x128 .f32) :: L) = X := View.canon_cons_unit_zero (S := S256x128) zero2 h X L
theorem cnG (X : Vec F S1x128 .f32) (h) (L) : View.canon ((⟨Rect.unit ![0, 0] S1x128.size h, X⟩ : View.Piece (Elt F) S1x128 .f32) :: L) = X := View.canon_cons_unit_zero (S := S1x128) zero2 h X L
theorem cnS (X : Vec F S128x256 .fp8e4m3) (h) (L) : View.canon ((⟨Rect.unit ![0, 0] S128x256.size h, X⟩ : View.Piece (Elt F) S128x256 .fp8e4m3) :: L) = X := View.canon_cons_unit_zero (S := S128x256) zero2 h X L
theorem cnW (X : Vec F S256x1024 .f32) (h) (L) : View.canon ((⟨Rect.unit ![0, 0] S256x1024.size h, X⟩ : View.Piece (Elt F) S256x1024 .f32) :: L) = X := View.canon_cons_unit_zero (S := S256x1024) zero2 h X L

theorem canon_dPieces (T : Vec F S256x128 .f32) : View.canon (dPieces T) = k0_pay18 (k0_pay13 T) cE4M3 (k0_pay14 T) := cnT _ _ _
theorem canon_sPieces (T : Vec F S256x128 .f32) (L) : View.canon (sPieces T L) = k0_pay19 cE4M3 (k0_pay14 T) := cnT _ _ _

/-- The block maxima of the activations, blocks along the rows. -/
def tFn (x1 : Vec F S128x4096 .bf16) : Vec F S256x128 .f32 := View.canon (tPieces fun q => View.ld x1 (rXc q))
/-- The segment scales, one per token. -/
def gFn (x1 : Vec F S128x4096 .bf16) : Vec F S1x128 .f32 := k0_pay13 (tFn x1)
/-- The block scales. -/
def sFn (x1 : Vec F S128x4096 .bf16) : Vec F S128x256 .fp8e4m3 := k0_pay17 cE4M3 (k0_pay14 (tFn x1))
/-- The block denominators. -/
def dFn (x1 : Vec F S128x4096 .bf16) : Vec F S256x128 .f32 := k0_pay18 (k0_pay13 (tFn x1)) cE4M3 (k0_pay14 (tFn x1))
/-- The block scales in the wide format, blocks along the rows. -/
def scFn (x1 : Vec F S128x4096 .bf16) : Vec F S256x128 .f32 := k0_pay19 cE4M3 (k0_pay14 (tFn x1))
/-- The packed codes. -/
def codesFn (x1 : Vec F S128x4096 .bf16) : Vec F S128x2048 .i8 :=
  View.canon (codePieces (fun q => View.ld x1 (rXc q)) (fun q => View.ld (dFn x1) (rT q)))
/-- The quantised activations. -/
def xqFn (x1 : Vec F S128x4096 .bf16) : Vec F S128x4096 .bf16 :=
  View.canon (xqPieces (fun q => View.ld x1 (rXc q)) (fun q => View.ld (dFn x1) (rT q)) (fun q => View.ld (scFn x1) (rT q)))
/-- A point's block of the product, from the quantised activations `X` and the segment scales `g`. -/
def outFn (x0 : Vec F S1 .f32) (x2 : Vec F S1024x2048 .i8) (x3 : Vec F S1024x256 .fp8e4m3)
    (X : Vec F S128x4096 .bf16) (g : Vec F S1x128 .f32) : Vec F S128x1024 .bf16 :=
  View.canon (outPieces (fun k => View.ld X (rX k)) (fun n k => View.ld x2 (rW n k))
    (fun n k b => View.ld (k0_pay100 x3) (rS n k b)) g (x0 (Shape.Idx.first (by decide))))

/-- The stores of `A7` cover its buffer. -/
theorem cover_A7 (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : cond0_0 i)
    (x0 : Vec F S1 .f32) (x1 : Vec F S128x4096 .bf16) (x2 : Vec F S1024x2048 .i8) (x3 : Vec F S1024x256 .fp8e4m3) (y : S1x128.Idx) :
    ∃ pc ∈ (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.1, y ∈ pc.1.set :=
  View.cover_of_tiledL (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.1 S1x128.size (by sl_kernel_rfl) y

set_option maxHeartbeats 1000000 in
/-- What the stores of `A7` leave. -/
theorem canon_A7 (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : cond0_0 i)
    (x0 : Vec F S1 .f32) (x1 : Vec F S128x4096 .bf16) (x2 : Vec F S1024x2048 .i8) (x3 : Vec F S1024x256 .fp8e4m3) :
    View.canon (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.1 = gFn x1 := by
  rw [quantG]; rw [readAt_fun arg2 harg2 x1 rXc, readCov_ld arg10.view _ rAll, ldT]; exact cnG _ _ _

/-- The stores of `A6` cover its buffer. -/
theorem cover_A6 (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : cond0_0 i)
    (x0 : Vec F S1 .f32) (x1 : Vec F S128x4096 .bf16) (x2 : Vec F S1024x2048 .i8) (x3 : Vec F S1024x256 .fp8e4m3) (y : S128x256.Idx) :
    ∃ pc ∈ (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.1, y ∈ pc.1.set :=
  View.cover_of_tiledL (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.1 S128x256.size (by sl_kernel_rfl) y

set_option maxHeartbeats 1000000 in
/-- What the stores of `A6` leave. -/
theorem canon_A6 (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : cond0_0 i)
    (x0 : Vec F S1 .f32) (x1 : Vec F S128x4096 .bf16) (x2 : Vec F S1024x2048 .i8) (x3 : Vec F S1024x256 .fp8e4m3) :
    View.canon (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.1 = sFn x1 := by
  rw [quantScales]; rw [readAt_fun arg2 harg2 x1 rXc, readCov_ld arg10.view _ rAll, ldT]; exact cnS _ _ _

/-- The stores of `A5` cover its buffer. -/
theorem cover_A5 (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : cond0_0 i)
    (x0 : Vec F S1 .f32) (x1 : Vec F S128x4096 .bf16) (x2 : Vec F S1024x2048 .i8) (x3 : Vec F S1024x256 .fp8e4m3) (y : S128x2048.Idx) :
    ∃ pc ∈ (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.1, y ∈ pc.1.set :=
  View.cover_of_tiledL (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.1 S128x256.size (by sl_kernel_rfl) y

set_option maxHeartbeats 1000000 in
/-- What the stores of `A5` leave. -/
theorem canon_A5 (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : cond0_0 i)
    (x0 : Vec F S1 .f32) (x1 : Vec F S128x4096 .bf16) (x2 : Vec F S1024x2048 .i8) (x3 : Vec F S1024x256 .fp8e4m3) :
    View.canon (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.1 = codesFn x1 := by
  rw [quantCodes]; rw [readAt_fun arg2 harg2 x1 rXc, readCov_ld arg10.view _ rAll, ldT]
  rw [readCov_fun arg11.view _ rT, canon_dPieces]; rfl

/-- The stores of `AX` cover its buffer. -/
theorem cover_AX (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : cond0_0 i)
    (x0 : Vec F S1 .f32) (x1 : Vec F S128x4096 .bf16) (x2 : Vec F S1024x2048 .i8) (x3 : Vec F S1024x256 .fp8e4m3) (y : S128x4096.Idx) :
    ∃ pc ∈ (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.1, y ∈ pc.1.set :=
  View.cover_of_tiledL (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.1 S128x512.size (by sl_kernel_rfl) y

set_option maxHeartbeats 1000000 in
/-- What the stores of `AX` leave. -/
theorem canon_AX (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : cond0_0 i)
    (x0 : Vec F S1 .f32) (x1 : Vec F S128x4096 .bf16) (x2 : Vec F S1024x2048 .i8) (x3 : Vec F S1024x256 .fp8e4m3) :
    View.canon (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).2.2.2.2.1 = xqFn x1 := by
  rw [quantXq]; rw [readAt_fun arg2 harg2 x1 rXc, readCov_ld arg10.view _ rAll, ldT]
  rw [readCov_fun arg11.view _ rT, readCov_fun arg10.view _ rT, canon_dPieces, canon_sPieces]; rfl

/-- The stores of `A4` cover its buffer. -/
theorem cover_A4 (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : cond0_0 i)
    (x0 : Vec F S1 .f32) (x1 : Vec F S128x4096 .bf16) (x2 : Vec F S1024x2048 .i8) (x3 : Vec F S1024x256 .fp8e4m3) (y : S128x1024.Idx) :
    ∃ pc ∈ (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).1, y ∈ pc.1.set :=
  View.cover_of_tiledL (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).1 S128x256.size (by sl_kernel_rfl) y

set_option maxHeartbeats 1000000 in
/-- What the stores of `A4` leave. -/
theorem canon_A4 (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : cond0_0 i)
    (x0 : Vec F S1 .f32) (x1 : Vec F S128x4096 .bf16) (x2 : Vec F S1024x2048 .i8) (x3 : Vec F S1024x256 .fp8e4m3) :
    View.canon (kernelRunA c i arg1 harg1 arg2 harg2 arg3 harg3 arg4 harg4 arg5 harg5 arg6 harg6 arg7 harg7 arg8 harg8 arg9 harg9 arg10 harg10 arg11 harg11 arg12 harg12 arg13 harg13 hc0 x0 x1 x2 x3).1 = outFn x0 x2 x3 (xqFn x1) (gFn x1) := by
  have e13 : View.canon (kernelRunA.sl.H13_1 c arg4 harg4 x3) = k0_pay100 x3 := by
    refine Eq.trans (congrArg View.canon (show _ = [⟨Rect.unit ![0, 0] S256x1024.size inb_S256x1024_S256x1024_0_0, k0_pay100 (arg4.view.readAt (Elt F) (Rect.unit ![0, 0] S1024x256.size inb_S1024x256_S1024x256_0_0).toLoadRect (harg4.unread x3))⟩] from by sl_kernel_rfl)) ?_
    rw [cnW, readAt_unread_ld arg4 harg4, ldW]
  refine congrArg View.canon ((piecesA c i arg1 harg1 arg2 harg2 arg3 harg3 arg4 harg4 arg5 harg5 arg6 harg6 arg7 harg7 arg8 harg8 arg9 harg9 arg10 harg10 arg11 harg11 arg12 harg12 arg13 harg13 hc0 x0 x1 x2 x3).trans (outPieces_congr (funext fun k => ?_) (funext fun n => funext fun k => ?_) (funext fun n => funext fun k => funext fun b => ?_) ?_ ?_))
  · exact (readCov_ld _ _ _).trans (congrArg (fun X => View.ld X (rX k)) (canon_AX c i arg1 harg1 arg2 harg2 arg3 harg3 arg4 harg4 arg5 harg5 arg6 harg6 arg7 harg7 arg8 harg8 arg9 harg9 arg10 harg10 arg11 harg11 arg12 harg12 arg13 harg13 hc0 x0 x1 x2 x3))
  · exact readAt_unread_ld arg3 harg3 x2 (rW n k)
  · exact (readCov_ld _ _ _).trans (congrArg (fun X => View.ld X (rS n k b)) e13)
  · exact (readCov_ld _ _ _).trans ((congrArg (fun X => View.ld X _) (canon_A7 c i arg1 harg1 arg2 harg2 arg3 harg3 arg4 harg4 arg5 harg5 arg6 harg6 arg7 harg7 arg8 harg8 arg9 harg9 arg10 harg10 arg11 harg11 arg12 harg12 arg13 harg13 hc0 x0 x1 x2 x3)).trans (ldG _ _))
  · exact (congrFun (readAt_unread_ld arg1 harg1 x0 _) _).trans (congrFun (ldF x0 _) _)

/-- The stores of `B4` cover its buffer. -/
theorem cover_B4 (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : ¬cond0_0 i)
    (x0 : Vec F S1 .f32) (x1 : Vec F S128x4096 .bf16) (x2 : Vec F S1024x2048 .i8) (x3 : Vec F S1024x256 .fp8e4m3) (y5 : Vec F S128x2048 .i8) (y6 : Vec F S128x256 .fp8e4m3) (y7 : Vec F S1x128 .f32) (xq : Vec F S128x4096 .bf16) (y : S128x1024.Idx) :
    ∃ pc ∈ (kernelRunB c i arg1 harg1 arg2 harg2 arg3 harg3 arg4 harg4 arg5 harg5 arg6 harg6 arg7 harg7 arg8 harg8 arg9 harg9 arg10 harg10 arg11 harg11 arg12 harg12 arg13 harg13 hc0 x0 x1 x2 x3 y5 y6 y7 xq).1, y ∈ pc.1.set :=
  View.cover_of_tiledL (kernelRunB c i arg1 harg1 arg2 harg2 arg3 harg3 arg4 harg4 arg5 harg5 arg6 harg6 arg7 harg7 arg8 harg8 arg9 harg9 arg10 harg10 arg11 harg11 arg12 harg12 arg13 harg13 hc0 x0 x1 x2 x3 y5 y6 y7 xq).1 S128x256.size (by sl_kernel_rfl) y

set_option maxHeartbeats 1000000 in
/-- What the stores of `B4` leave. -/
theorem canon_B4 (c : Dev nD) (i : grid0.Coords) (arg1 : Memref sig .tc .smem S1 .f32) (harg1 : arg1.IsWhole) (arg2 : Memref sig .tc .vmem S128x4096 .bf16) (harg2 : arg2.IsWhole) (arg3 : Memref sig .tc .vmem S1024x2048 .i8) (harg3 : arg3.IsWhole) (arg4 : Memref sig .tc .vmem S1024x256 .fp8e4m3) (harg4 : arg4.IsWhole) (arg5 : Memref sig .tc .vmem S128x1024 .bf16) (harg5 : arg5.IsWhole) (arg6 : Memref sig .tc .vmem S128x2048 .i8) (harg6 : arg6.IsWhole) (arg7 : Memref sig .tc .vmem S128x256 .fp8e4m3) (harg7 : arg7.IsWhole) (arg8 : Memref sig .tc .vmem S1x128 .f32) (harg8 : arg8.IsWhole) (arg9 : Memref sig .tc .vmem S128x4096 .bf16) (harg9 : arg9.IsWhole) (arg10 : Memref sig .tc .vmem S256x128 .f32) (harg10 : arg10.IsWhole) (arg11 : Memref sig .tc .vmem S256x128 .f32) (harg11 : arg11.IsWhole) (arg12 : Memref sig .tc .vmem S1x128 .f32) (harg12 : arg12.IsWhole) (arg13 : Memref sig .tc .vmem S256x1024 .f32) (harg13 : arg13.IsWhole) (hc0 : ¬cond0_0 i)
    (x0 : Vec F S1 .f32) (x1 : Vec F S128x4096 .bf16) (x2 : Vec F S1024x2048 .i8) (x3 : Vec F S1024x256 .fp8e4m3) (y5 : Vec F S128x2048 .i8) (y6 : Vec F S128x256 .fp8e4m3) (y7 : Vec F S1x128 .f32) (xq : Vec F S128x4096 .bf16) :
    View.canon (kernelRunB c i arg1 harg1 arg2 harg2 arg3 harg3 arg4 harg4 arg5 harg5 arg6 harg6 arg7 harg7 arg8 harg8 arg9 harg9 arg10 harg10 arg11 harg11 arg12 harg12 arg13 harg13 hc0 x0 x1 x2 x3 y5 y6 y7 xq).1 = outFn x0 x2 x3 xq y7 := by
  have e13 : View.canon (kernelRunB.sl.H13_1 c arg4 harg4 x3) = k0_pay100 x3 := by
    refine Eq.trans (congrArg View.canon (show _ = [⟨Rect.unit ![0, 0] S256x1024.size inb_S256x1024_S256x1024_0_0, k0_pay100 (arg4.view.readAt (Elt F) (Rect.unit ![0, 0] S1024x256.size inb_S1024x256_S1024x256_0_0).toLoadRect (harg4.unread x3))⟩] from by sl_kernel_rfl)) ?_
    rw [cnW, readAt_unread_ld arg4 harg4, ldW]
  refine congrArg View.canon ((piecesB c i arg1 harg1 arg2 harg2 arg3 harg3 arg4 harg4 arg5 harg5 arg6 harg6 arg7 harg7 arg8 harg8 arg9 harg9 arg10 harg10 arg11 harg11 arg12 harg12 arg13 harg13 hc0 x0 x1 x2 x3 y5 y6 y7 xq).trans (outPieces_congr (funext fun k => ?_) (funext fun n => funext fun k => ?_) (funext fun n => funext fun k => funext fun b => ?_) ?_ ?_))
  · exact readAt_unread_ld arg9 harg9 xq (rX k)
  · exact readAt_unread_ld arg3 harg3 x2 (rW n k)
  · exact (readCov_ld _ _ _).trans (congrArg (fun X => View.ld X (rS n k b)) e13)
  · exact (readAt_unread_ld arg8 harg8 y7 _).trans (ldG _ _)
  · exact (congrFun (readAt_unread_ld arg1 harg1 x0 _) _).trans (congrFun (ldF x0 _) _)

end Cert.KernelIdeal.Gen

end
-- ==== Proof.KFrame.lean ====
module

public import proofs.«01_k».proof.Proof.RunVal
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The activations, as the first point finds them. -/
abbrev X1 (c : Dev nD) : Vec F S128x4096 .bf16 := iblk m c 1 t0_0

/-- The region invariant before position `n`: before the first point every scratch at anything; afterwards the
    scratch of quantised activations at the activations quantised, the other scratch at anything. -/
def PhiS (c : Dev nD) : (n : ℕ) → n ≤ cfg0.N → sProp 𝕄
  | 0, _ => Pipeline.ΦA spec0 c
  | n + 1, hn => iprop(iprop(owns (c : Thread nD τ) scM0_0 fullShare (xqFn (X1 m c)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (xqFn (X1 m c)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (xqFn (X1 m c)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-- The proof data: after the body at point `t` each input's buffer holds its block, the product's buffer the point's
    block of the product, and the other three outputs' buffers the codes, block scales and segment scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outFn (iblk m c 0 t) (iblk m c 2 t) (iblk m c 3 t) (xqFn (X1 m c)) (gFn (X1 m c))
    | ⟨5, _⟩ => codesFn (X1 m c)
    | ⟨6, _⟩ => sFn (X1 m c)
    | ⟨7, _⟩ => gFn (X1 m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outFn (iblk m c 0 t) (iblk m c 2 t) (iblk m c 3 t) (xqFn (X1 m c)) (gFn (X1 m c)) := by dsimp only [dats]
theorem after0_5 (c : Dev nD) (t : Fin cfg0.N) : (dats m 0 c).after 5 t = codesFn (X1 m c) := by dsimp only [dats]
theorem after0_6 (c : Dev nD) (t : Fin cfg0.N) : (dats m 0 c).after 6 t = sFn (X1 m c) := by dsimp only [dats]
theorem after0_7 (c : Dev nD) (t : Fin cfg0.N) : (dats m 0 c).after 7 t = gFn (X1 m c) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- An output whose block is written back after the last point only, and which the first point writes: at every later
    point its buffer holds what the first point left. -/
theorem before_keep (c : Dev nD) (w : Fin cfg0.W) (hw : (cfg0.win w).isOut = true) (K) (hK : ∀ t, (dats m 0 c).after w t = K)
    (h0 : cfg0.idle w (grid0.coords t0_0) = false) (hclip : ∀ i a, (cfg0.win w).clip i a = none)
    (hfl : ∀ t : Fin cfg0.N, (cfg0.win w).flush t = true ↔ t.val % 14 = 13) (d) :
    ∀ (n : ℕ) (hn : n < cfg0.N), n ≠ 0 → (dats m 0 c).before w ⟨n, hn⟩ d = K := by
  intro n
  induction n with
  | zero => intro _ h; exact absurd rfl h
  | succ n ih =>
    intro hn _
    have hN : n + 1 < 14 := lt_of_lt_of_eq hn (show cfg0.N = 14 from N_0)
    have hn' : n < cfg0.N := Nat.lt_of_succ_lt hn
    have hf : (cfg0.win w).flush ⟨n, hn'⟩ = false := by
      rw [Bool.eq_false_iff]; intro h
      have := (hfl _).mp h; dsimp only at this; omega
    rw [(dats m 0 c).before_of_pos w _ (Nat.succ_ne_zero n) ((cfg0.win w).fetch_out hw _)]
    refine (if_neg (by show ¬ (cfg0.win w).flush ⟨n, _⟩ = true; rw [hf]; exact Bool.false_ne_true)).trans ?_
    show (dats m 0 c).left w ⟨n, _⟩ d = K
    unfold Dat.left
    cases h : cfg0.idle w (cfg0.grid.coords ⟨n, hn'⟩) with
    | true =>
      by_cases hz : n = 0
      · subst hz; exact absurd (h.symm.trans h0) (by decide)
      · exact ih hn' hz
    | false =>
      show (dats m 0 c).kept w ⟨n, _⟩ d = K
      unfold Dat.kept
      rw [Pipeline.fill_of_clip_none w _ (hclip _) d, Window.fill_cut, hK]

/-- The same as the body's obligation reads it, whether or not the point is one at which the body skips the output. -/
theorem leaves_keep (c : Dev nD) (w : Fin cfg0.W) (hw : (cfg0.win w).isOut = true) (K) (hK : ∀ t, (dats m 0 c).after w t = K)
    (h0 : cfg0.idle w (grid0.coords t0_0) = false) (hclip : ∀ i a, (cfg0.win w).clip i a = none)
    (hfl : ∀ t : Fin cfg0.N, (cfg0.win w).flush t = true ↔ t.val % 14 = 13) (t : Fin cfg0.N) :
    owns (c : Thread nD τ) ((cfg0.win w).stage (cfg0.slots t w)) fullShare K ⊢ ((dats m 0 c).leavesExact w t : sProp 𝕄) := by
  unfold Dat.leavesExact
  cases h : cfg0.idle w (cfg0.grid.coords t) with
  | false => rw [hK]
  | true =>
    cases hf : (cfg0.win w).flush t with
    | true => rw [hK]
    | false =>
      have hz : t.val ≠ 0 := fun hz => by
        obtain rfl : t = t0_0 := Fin.ext hz
        exact absurd (h.symm.trans h0) (by decide)
      iintro H
      iexists default
      rw [before_keep m c w hw K hK h0 hclip hfl default t.val t.isLt hz]
      iexact H

theorem before0_5 (c : Dev nD) (t : Fin cfg0.N) (ht : t.val ≠ 0) (d) : (dats m 0 c).before 5 t d = codesFn (X1 m c) :=
  before_keep m c 5 rfl _ (after0_5 m c) rfl (fun _ _ => rfl) flush0_5 d t.val t.isLt ht
theorem leaves0_5 (c : Dev nD) (t : Fin cfg0.N) :
    owns (c : Thread nD τ) (ms0_5 t) fullShare (codesFn (X1 m c)) ⊢ ((dats m 0 c).leavesExact 5 t : sProp 𝕄) :=
  leaves_keep m c 5 rfl _ (after0_5 m c) rfl (fun _ _ => rfl) flush0_5 t
theorem before0_6 (c : Dev nD) (t : Fin cfg0.N) (ht : t.val ≠ 0) (d) : (dats m 0 c).before 6 t d = sFn (X1 m c) :=
  before_keep m c 6 rfl _ (after0_6 m c) rfl (fun _ _ => rfl) flush0_6 d t.val t.isLt ht
theorem leaves0_6 (c : Dev nD) (t : Fin cfg0.N) :
    owns (c : Thread nD τ) (ms0_6 t) fullShare (sFn (X1 m c)) ⊢ ((dats m 0 c).leavesExact 6 t : sProp 𝕄) :=
  leaves_keep m c 6 rfl _ (after0_6 m c) rfl (fun _ _ => rfl) flush0_6 t
theorem before0_7 (c : Dev nD) (t : Fin cfg0.N) (ht : t.val ≠ 0) (d) : (dats m 0 c).before 7 t d = gFn (X1 m c) :=
  before_keep m c 7 rfl _ (after0_7 m c) rfl (fun _ _ => rfl) flush0_7 d t.val t.isLt ht
theorem leaves0_7 (c : Dev nD) (t : Fin cfg0.N) :
    owns (c : Thread nD τ) (ms0_7 t) fullShare (gFn (X1 m c)) ⊢ ((dats m 0 c).leavesExact 7 t : sProp 𝕄) :=
  leaves_keep m c 7 rfl _ (after0_7 m c) rfl (fun _ _ => rfl) flush0_7 t

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (dats m 0 c).leavesExact 5 t
    ∗ (dats m 0 c).leavesExact 6 t
    ∗ (dats m 0 c).leavesExact 7 t)

set_option maxHeartbeats 2000000 in
/-- The body at any point: at the first it quantises and multiplies, at a later one it only multiplies, with the
    scratch of quantised activations and the segment scales as the first point left them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 14 := lt_of_lt_of_eq t.isLt (show cfg0.N = 14 from N_0)
  by_cases hz : t.val = 0
  · have h0 : t.val % 14 = 0 := by rw [hz]
    obtain rfl : t = t0_0 := Fin.ext hz
    generalize ht : (t0_0 : Fin cfg0.N) = t at *
    rw [PhiS_castSucc m c t, PhiS_zero m c _ _ hz, PhiA0_eq]
    rw [show X1 m c = iblk m c 1 t from by rw [← ht]]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, ⟨%e4, H4⟩, ⟨%e5, H5⟩, ⟨%e6, H6⟩, ⟨%e7, H7⟩, ⟨%eS0, HS0⟩, HS1, HS2, HS3, HS4⟩
    isplitl [HS0 HS1 HS2 HS3 HS4 Hg]
    · isplitl [HS0 HS1 HS2 HS3 HS4]
      · isplitl [HS0]
        · unfold owns; iexists _; isplitr
          swap; · iexact HS0
          ipureintro; exact (View.read_writes_eq_canon _ _ _ (cover_AX c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t))).trans (canon_AX c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t))
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact (View.read_writes_eq_canon _ _ _ (cover_A4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t))).trans (canon_A4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t))
    isplitl [H5]
    · iapply (leaves0_5 m c t); unfold owns; iexists _; isplitr
      swap; · iexact H5
      ipureintro; exact (View.read_writes_eq_canon _ _ _ (cover_A5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t))).trans (canon_A5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t))
    isplitl [H6]
    · iapply (leaves0_6 m c t); unfold owns; iexists _; isplitr
      swap; · iexact H6
      ipureintro; exact (View.read_writes_eq_canon _ _ _ (cover_A6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t))).trans (canon_A6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t))
    iapply (leaves0_7 m c t); unfold owns; iexists _; isplitr
    swap; · iexact H7
    ipureintro; exact (View.read_writes_eq_canon _ _ _ (cover_A7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t))).trans (canon_A7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t))
  · have h0 : ¬t.val % 14 = 0 := by omega
    simp only [before0_5 m c t hz, before0_6 m c t hz, before0_7 m c t hz]
    rw [PhiS_castSucc m c t, PhiS_pos m c _ _ hz]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (codesFn (X1 m c)) (sFn (X1 m c)) (gFn (X1 m c)) (xqFn (X1 m c))).2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    iintro ⟨H0, H1, H2, H3, ⟨%e4, H4⟩, H5, H6, H7, HS0, HS1, HS2, HS3, HS4⟩
    isplitl [HS0 HS1 HS2 HS3 HS4 Hg]
    · isplitl [HS0 HS1 HS2 HS3 HS4]
      · isplitl [HS0]
        · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact (View.read_writes_eq_canon _ _ _ (cover_B4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (codesFn (X1 m c)) (sFn (X1 m c)) (gFn (X1 m c)) (xqFn (X1 m c)))).trans (canon_B4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (codesFn (X1 m c)) (sFn (X1 m c)) (gFn (X1 m c)) (xqFn (X1 m c)))
    isplitl [H5]; · iapply (leaves0_5 m c t); iexact H5
    isplitl [H6]; · iapply (leaves0_6 m c t); iexact H6
    iapply (leaves0_7 m c t); iexact H7

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]; · iexact HS1
    isplitl [HS2]; · iexact HS2
    isplitl [HS3]; · iexact HS3
    iexact HS4
  iexact Hg

theorem hout (c : Dev nD) : (dats m 0 c).Φ (Fin.last cfg0.N) ⊢ Pipeline.ΦA spec0 c :=
  Phi_out m c _ (by rw [Fin.val_last]; have : cfg0.N = 14 := N_0; omega)

set_option backward.isDefEq.respectTransparency.types false in
/-- The launch: every execution terminates with the arrays at what the library computes from the proof data, and every
    semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every execution terminates with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Same.lean ====
module

public import proofs.«01_k».proof.Defs
public import proofs.«01_k».proof.Proof.Gen.Kernel
public import proofs.«01_k».proof.Proof.KFrame

@[expose] public section

set_option maxRecDepth 16384

noncomputable section

namespace Cert.Proof

open Idealize.ShloMosaic Idealize.SL.Sem

/-- The frame of the idealized program, read at the floats' bit patterns: it terminates with the argument arrays unchanged and
    every semaphore at zero. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- It holds, since the frame of the idealized program was proved for floats of any kind. -/
theorem frameBits : FrameBits := fun m g _ => Cert.KernelIdeal.Gen.frame (F := Bits) m g

/-- No operation was rewritten in the idealization, so the kernel's program is the idealized program's text, and its
    frame is the same statement. -/
theorem quiescent_eq : FrameBits = Cert.quiescent_Kernel := by
  sl_kernel_rfl

/-- The kernel terminates with the argument arrays unchanged and every semaphore at zero. -/
theorem quiescent_kernel : Cert.quiescent_Kernel := quiescent_eq ▸ frameBits

end Cert.Proof

end
-- ==== Proof.Spec.lean ====
module

public import Idealize.ShloMosaic.Lib.Pointwise
public import Idealize.ShloMosaic.Lib.Pipeline.ValueKit

/-!
The scalars of the computation on the extended reals: rounding a number to the nearest e2m1 number, its
four-bit code, the number a code stands for, and the weights' codes. Each is stated in the form the kernel
computes it and in the form the reference computes it, and the two are shown equal.
-/

@[expose] public section

noncomputable section

namespace Cert.Nv

open Idealize.ShloMosaic Idealize.ShloMosaic.TcCoe

/-! ### The constants -/

theorem c0_25 : Ideal.ofBits .f32 0x3E800000#32 = ((1 / 4 : ℝ) : EReal) := by
  simp [Ideal.ofBits, Ideal.ieee, -EReal.coe_mul]; norm_num
theorem c0_5 : Ideal.ofBits .f32 0x3F000000#32 = ((1 / 2 : ℝ) : EReal) := by
  simp [Ideal.ofBits, Ideal.ieee, -EReal.coe_mul]; norm_num
theorem c0_75 : Ideal.ofBits .f32 0x3F400000#32 = ((3 / 4 : ℝ) : EReal) := by
  simp [Ideal.ofBits, Ideal.ieee, -EReal.coe_mul]; norm_num
theorem c1_25 : Ideal.ofBits .f32 0x3FA00000#32 = ((5 / 4 : ℝ) : EReal) := by
  simp [Ideal.ofBits, Ideal.ieee, -EReal.coe_mul]; norm_num
theorem c1_5 : Ideal.ofBits .f32 0x3FC00000#32 = ((3 / 2 : ℝ) : EReal) := by
  simp [Ideal.ofBits, Ideal.ieee, -EReal.coe_mul]; norm_num
theorem c1_75 : Ideal.ofBits .f32 0x3FE00000#32 = ((7 / 4 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem c2_5 : Ideal.ofBits .f32 0x40200000#32 = ((5 / 2 : ℝ) : EReal) := by
  simp [Ideal.ofBits, Ideal.ieee, -EReal.coe_mul]; norm_num
theorem c3 : Ideal.ofBits .f32 0x40400000#32 = ((3 : ℝ) : EReal) := by
  simp [Ideal.ofBits, Ideal.ieee, -EReal.coe_mul]; norm_num
theorem c3_5 : Ideal.ofBits .f32 0x40600000#32 = ((7 / 2 : ℝ) : EReal) := by
  simp [Ideal.ofBits, Ideal.ieee, -EReal.coe_mul]; norm_num
theorem c4 : Ideal.ofBits .f32 0x40800000#32 = ((4 : ℝ) : EReal) := by
  simp [Ideal.ofBits, Ideal.ieee, -EReal.coe_mul]; norm_num
theorem c5 : Ideal.ofBits .f32 0x40A00000#32 = ((5 : ℝ) : EReal) := by
  simp [Ideal.ofBits, Ideal.ieee, -EReal.coe_mul]; norm_num
theorem c6 : Ideal.ofBits .f32 0x40C00000#32 = ((6 : ℝ) : EReal) := by
  simp [Ideal.ofBits, Ideal.ieee, -EReal.coe_mul]; norm_num
/-- The start of a maximum is below every number. -/
theorem cBot : Ideal.ofBits .f32 0xFF800000#32 = (⊥ : EReal) := by simp [Ideal.ofBits, Ideal.ieee]

/-! ### Rounding to e2m1, and the codes -/

/-- The size of the e2m1 number nearest to `a`, ties to the even code. -/
def mag (a : EReal) : EReal :=
  if Ideal.ofBits .f32 0x40A00000#32 < a then Ideal.ofBits .f32 0x40C00000#32
  else if Ideal.ofBits .f32 0x40600000#32 ≤ a then Ideal.ofBits .f32 0x40800000#32
  else if Ideal.ofBits .f32 0x40200000#32 < a then Ideal.ofBits .f32 0x40400000#32
  else if Ideal.ofBits .f32 0x3FE00000#32 ≤ a then Ideal.ofBits .f32 0x40000000#32
  else if Ideal.ofBits .f32 0x3FA00000#32 < a then Ideal.ofBits .f32 0x3FC00000#32
  else if Ideal.ofBits .f32 0x3F400000#32 ≤ a then 1
  else if Ideal.ofBits .f32 0x3E800000#32 < a then Ideal.ofBits .f32 0x3F000000#32
  else 0

/-- The e2m1 number with the sign of `v` and the size nearest to `a`. -/
def rnd (v a : EReal) : EReal :=
  Scalar.select (IntOp.andi (BitVec.ofBool (decide (v < 0))) (BitVec.ofBool (decide (0 < mag a)))) (0 - mag a) (mag a)

/-- The four-bit code of an e2m1 number, as the kernel takes it: from the number itself. -/
def nibK (v : EReal) : BitVec 32 :=
  IntOp.ori
    (if Ideal.ofBits .f32 0x40A00000#32 < max v (-v) then 7#32
    else if Ideal.ofBits .f32 0x40600000#32 < max v (-v) then 6#32
    else if Ideal.ofBits .f32 0x40200000#32 < max v (-v) then 5#32
    else if Ideal.ofBits .f32 0x3FE00000#32 < max v (-v) then 4#32
    else if Ideal.ofBits .f32 0x3FA00000#32 < max v (-v) then 3#32
    else if Ideal.ofBits .f32 0x3F400000#32 < max v (-v) then 2#32
    else if Ideal.ofBits .f32 0x3E800000#32 < max v (-v) then 1#32
    else 0#32)
    (if v < 0 then 8#32 else 0#32)

/-- How many of the seven thresholds `a` passes. -/
def steps (a : EReal) : BitVec 32 :=
  IntOp.addi
    (IntOp.addi
      (IntOp.addi
        (IntOp.addi
          (IntOp.addi
            (IntOp.addi
              (BitVec.setWidth 32 (BitVec.ofBool (decide (Ideal.ofBits .f32 0x3E800000#32 < a))))
              (BitVec.setWidth 32 (BitVec.ofBool (decide (Ideal.ofBits .f32 0x3F400000#32 ≤ a)))))
            (BitVec.setWidth 32 (BitVec.ofBool (decide (Ideal.ofBits .f32 0x3FA00000#32 < a)))))
          (BitVec.setWidth 32 (BitVec.ofBool (decide (Ideal.ofBits .f32 0x3FE00000#32 ≤ a)))))
        (BitVec.setWidth 32 (BitVec.ofBool (decide (Ideal.ofBits .f32 0x40200000#32 < a)))))
      (BitVec.setWidth 32 (BitVec.ofBool (decide (Ideal.ofBits .f32 0x40600000#32 ≤ a)))))
    (BitVec.setWidth 32 (BitVec.ofBool (decide (Ideal.ofBits .f32 0x40A00000#32 < a))))

/-- The four-bit code of `v` rounded, as the reference takes it: the thresholds its size `a` passes, and 8
    for a negative number that does not round to zero. -/
def nibR (v a : EReal) : BitVec 32 :=
  IntOp.addi (steps a) (IntOp.muli (8#32) (BitVec.setWidth 32
    (IntOp.andi (BitVec.ofBool (decide (v < 0))) (IntOp.cmpi .sgt (steps a) 0#32))))

/-- The e2m1 number of a four-bit code, by its bits: two magnitude choices per bit, then the sign. -/
def decMag (n : BitVec 32) : EReal :=
  Scalar.select (IntOp.cmpi .ne (IntOp.andi n 4#32) 0#32)
    (Scalar.select (IntOp.cmpi .ne (IntOp.andi n 2#32) 0#32)
      (Scalar.select (IntOp.cmpi .ne (IntOp.andi n 1#32) 0#32)
        (Ideal.ofBits .f32 0x40C00000#32) (Ideal.ofBits .f32 0x40800000#32))
      (Scalar.select (IntOp.cmpi .ne (IntOp.andi n 1#32) 0#32)
        (Ideal.ofBits .f32 0x40400000#32) (Ideal.ofBits .f32 0x40000000#32)))
    (Scalar.select (IntOp.cmpi .ne (IntOp.andi n 2#32) 0#32)
      (Scalar.select (IntOp.cmpi .ne (IntOp.andi n 1#32) 0#32) (Ideal.ofBits .f32 0x3FC00000#32) 1)
      (Scalar.select (IntOp.cmpi .ne (IntOp.andi n 1#32) 0#32) (Ideal.ofBits .f32 0x3F000000#32) 0))

/-- The e2m1 number of a four-bit code. -/
def dec (n : BitVec 32) : EReal :=
  Scalar.select (IntOp.cmpi .ne (IntOp.andi n 8#32) 0#32) (0 - decMag n) (decMag n)

/-- Twice the size of the e2m1 number of a four-bit code, from the digits of one constant. -/
def twice (n : BitVec 32) : BitVec 32 :=
  IntOp.andi (IntOp.shrui .vector (3362009616#32) (IntOp.shli .vector (IntOp.andi n 7#32) 2#32)) 15#32

/-- The e2m1 number of a four-bit code, as the kernel takes it: half of a signed integer. -/
def decK (n : BitVec 32) : EReal :=
  FloatOps.sitofp (F := Ideal) FTy.f32
    (Scalar.select (IntOp.cmpi .sgt n 7#32) (IntOp.subi (0#32) (twice n)) (twice n)) * Ideal.ofBits .f32 0x3F000000#32

/-- Every number passes the first `k` thresholds and no other, for one `k`. -/
theorem level (a : EReal) : ∃ k : Fin 8,
    (Ideal.ofBits .f32 0x3E800000#32 < a ↔ 1 ≤ k.val) ∧ (Ideal.ofBits .f32 0x3F400000#32 ≤ a ↔ 2 ≤ k.val) ∧
    (Ideal.ofBits .f32 0x3FA00000#32 < a ↔ 3 ≤ k.val) ∧ (Ideal.ofBits .f32 0x3FE00000#32 ≤ a ↔ 4 ≤ k.val) ∧
    (Ideal.ofBits .f32 0x40200000#32 < a ↔ 5 ≤ k.val) ∧ (Ideal.ofBits .f32 0x40600000#32 ≤ a ↔ 6 ≤ k.val) ∧
    (Ideal.ofBits .f32 0x40A00000#32 < a ↔ 7 ≤ k.val) := by
  rw [c0_25, c0_75, c1_25, c1_75, c2_5, c3_5, c5]
  have e1 : ((1 / 4 : ℝ) : EReal) < ((3 / 4 : ℝ) : EReal) := EReal.coe_lt_coe_iff.2 (by norm_num)
  have e2 : ((3 / 4 : ℝ) : EReal) < ((5 / 4 : ℝ) : EReal) := EReal.coe_lt_coe_iff.2 (by norm_num)
  have e3 : ((5 / 4 : ℝ) : EReal) < ((7 / 4 : ℝ) : EReal) := EReal.coe_lt_coe_iff.2 (by norm_num)
  have e4 : ((7 / 4 : ℝ) : EReal) < ((5 / 2 : ℝ) : EReal) := EReal.coe_lt_coe_iff.2 (by norm_num)
  have e5 : ((5 / 2 : ℝ) : EReal) < ((7 / 2 : ℝ) : EReal) := EReal.coe_lt_coe_iff.2 (by norm_num)
  have e6 : ((7 / 2 : ℝ) : EReal) < ((5 : ℝ) : EReal) := EReal.coe_lt_coe_iff.2 (by norm_num)
  generalize ((1 / 4 : ℝ) : EReal) = t1 at *
  generalize ((3 / 4 : ℝ) : EReal) = t2 at *
  generalize ((5 / 4 : ℝ) : EReal) = t3 at *
  generalize ((7 / 4 : ℝ) : EReal) = t4 at *
  generalize ((5 / 2 : ℝ) : EReal) = t5 at *
  generalize ((7 / 2 : ℝ) : EReal) = t6 at *
  generalize ((5 : ℝ) : EReal) = t7 at *
  have f (k : ℕ) (hk : k < 8) (h1 : t1 < a ↔ 1 ≤ k) (h2 : t2 ≤ a ↔ 2 ≤ k) (h3 : t3 < a ↔ 3 ≤ k) (h4 : t4 ≤ a ↔ 4 ≤ k)
      (h5 : t5 < a ↔ 5 ≤ k) (h6 : t6 ≤ a ↔ 6 ≤ k) (h7 : t7 < a ↔ 7 ≤ k) : _ := Exists.intro (p := fun k : Fin 8 =>
        (t1 < a ↔ 1 ≤ k.val) ∧ (t2 ≤ a ↔ 2 ≤ k.val) ∧ (t3 < a ↔ 3 ≤ k.val) ∧ (t4 ≤ a ↔ 4 ≤ k.val) ∧
        (t5 < a ↔ 5 ≤ k.val) ∧ (t6 ≤ a ↔ 6 ≤ k.val) ∧ (t7 < a ↔ 7 ≤ k.val)) ⟨k, hk⟩ ⟨h1, h2, h3, h4, h5, h6, h7⟩
  have d7 : t7 < a → t6 ≤ a := fun h => (e6.trans h).le
  have d6 : t6 ≤ a → t5 < a := fun h => e5.trans_le h
  have d5 : t5 < a → t4 ≤ a := fun h => (e4.trans h).le
  have d4 : t4 ≤ a → t3 < a := fun h => e3.trans_le h
  have d3 : t3 < a → t2 ≤ a := fun h => (e2.trans h).le
  have d2 : t2 ≤ a → t1 < a := fun h => e1.trans_le h
  clear e1 e2 e3 e4 e5 e6
  generalize (t1 < a) = p1 at *
  generalize (t2 ≤ a) = p2 at *
  generalize (t3 < a) = p3 at *
  generalize (t4 ≤ a) = p4 at *
  generalize (t5 < a) = p5 at *
  generalize (t6 ≤ a) = p6 at *
  generalize (t7 < a) = p7 at *
  by_cases h7 : p7
  · have h6 := d7 h7; have h5 := d6 h6; have h4 := d5 h5; have h3 := d4 h4; have h2 := d3 h3; have h1 := d2 h2
    exact f 7 (by decide) (by simp [*]) (by simp [*]) (by simp [*]) (by simp [*]) (by simp [*]) (by simp [*]) (by simp [*])
  by_cases h6 : p6
  · have h5 := d6 h6; have h4 := d5 h5; have h3 := d4 h4; have h2 := d3 h3; have h1 := d2 h2
    exact f 6 (by decide) (by simp [*]) (by simp [*]) (by simp [*]) (by simp [*]) (by simp [*]) (by simp [*]) (by simp [*])
  by_cases h5 : p5
  · have h4 := d5 h5; have h3 := d4 h4; have h2 := d3 h3; have h1 := d2 h2
    exact f 5 (by decide) (by simp [*]) (by simp [*]) (by simp [*]) (by simp [*]) (by simp [*]) (by simp [*]) (by simp [*])
  by_cases h4 : p4
  · have h3 := d4 h4; have h2 := d3 h3; have h1 := d2 h2
    exact f 4 (by decide) (by simp [*]) (by simp [*]) (by simp [*]) (by simp [*]) (by simp [*]) (by simp [*]) (by simp [*])
  by_cases h3 : p3
  · have h2 := d3 h3; have h1 := d2 h2
    exact f 3 (by decide) (by simp [*]) (by simp [*]) (by simp [*]) (by simp [*]) (by simp [*]) (by simp [*]) (by simp [*])
  by_cases h2 : p2
  · have h1 := d2 h2
    exact f 2 (by decide) (by simp [*]) (by simp [*]) (by simp [*]) (by simp [*]) (by simp [*]) (by simp [*]) (by simp [*])
  by_cases h1 : p1
  · exact f 1 (by decide) (by simp [*]) (by simp [*]) (by simp [*]) (by simp [*]) (by simp [*]) (by simp [*]) (by simp [*])
  exact f 0 (by decide) (by simp [*]) (by simp [*]) (by simp [*]) (by simp [*]) (by simp [*]) (by simp [*]) (by simp [*])

/-- The eight sizes. -/
def magOf : Fin 8 → EReal
  | 0 => 0 | 1 => Ideal.ofBits .f32 0x3F000000#32 | 2 => 1 | 3 => Ideal.ofBits .f32 0x3FC00000#32
  | 4 => Ideal.ofBits .f32 0x40000000#32 | 5 => Ideal.ofBits .f32 0x40400000#32
  | 6 => Ideal.ofBits .f32 0x40800000#32 | 7 => Ideal.ofBits .f32 0x40C00000#32

/-- The rounded size and the step count of one level. -/
theorem at_level (a : EReal) : ∃ k : Fin 8, mag a = magOf k ∧ steps a = BitVec.ofNat 32 k.val := by
  obtain ⟨k, h1, h2, h3, h4, h5, h6, h7⟩ := level a
  refine ⟨k, ?_, ?_⟩
  · simp only [mag, h1, h2, h3, h4, h5, h6, h7]; fin_cases k <;> rfl
  · simp only [steps, h1, h2, h3, h4, h5, h6, h7]; fin_cases k <;> rfl

/-- The eight sizes as reals. -/
def magR : Fin 8 → ℝ
  | 0 => 0 | 1 => 1 / 2 | 2 => 1 | 3 => 3 / 2 | 4 => 2 | 5 => 3 | 6 => 4 | 7 => 6

theorem magOf_eq (k : Fin 8) : magOf k = ((magR k : ℝ) : EReal) := by
  fin_cases k <;> simp [magOf, magR, c0_5, c1_5, c2, c3, c4, c6]

theorem magR_pos (k : Fin 8) : (0 : ℝ) < magR k ↔ k ≠ 0 := by
  fin_cases k <;> simp [magR]

/-- The kernel's code of a signed size. -/
theorem nibK_of (k : Fin 8) (neg : Bool) : nibK (((if neg then -magR k else magR k) : ℝ) : EReal)
    = BitVec.ofNat 32 (k.val + if neg ∧ k ≠ 0 then 8 else 0) := by
  have hm : max (((if neg then -magR k else magR k : ℝ) : EReal)) (-((if neg then -magR k else magR k : ℝ) : EReal)) = ((magR k : ℝ) : EReal) := by
    have h0 : 0 ≤ magR k := by fin_cases k <;> norm_num [magR]
    rw [← EReal.coe_neg]
    cases neg
    · exact max_eq_left (EReal.coe_le_coe_iff.2 (by simp; linarith))
    · rw [max_eq_right (EReal.coe_le_coe_iff.2 (by simp; linarith))]; simp
  unfold nibK
  rw [hm, c0_25, c0_75, c1_25, c1_75, c2_5, c3_5, c5]
  simp only [EReal.coe_lt_coe_iff, ← EReal.coe_zero]
  cases neg <;> fin_cases k <;> norm_num [magR] <;> rfl

/-- The number and the reference's code of one level and sign. -/
theorem at_sign (v a : EReal) : ∃ (k : Fin 8) (neg : Bool), rnd v a = (((if neg then -magR k else magR k) : ℝ) : EReal) ∧
    nibR v a = BitVec.ofNat 32 (k.val + if neg ∧ k ≠ 0 then 8 else 0) := by
  obtain ⟨k, hm, hs⟩ := at_level a
  have e : (0 < ((magR k : ℝ) : EReal)) ↔ k ≠ 0 := by rw [EReal.coe_pos]; exact magR_pos k
  refine ⟨k, decide (v < 0), ?_, ?_⟩
  · unfold rnd
    rw [hm, magOf_eq]
    simp only [e]
    by_cases hv : v < 0
    · simp only [hv]
      by_cases hk : k = 0
      · subst hk; simp [magR, Scalar.select]
      · have h1 : IntOp.andi (BitVec.ofBool (decide True)) (BitVec.ofBool (decide (k ≠ 0))) = 1 := by simp [hk]; rfl
        rw [h1]; simp [Scalar.select]
    · have h1 : IntOp.andi (BitVec.ofBool (decide (v < 0))) (BitVec.ofBool (decide (k ≠ 0))) = 0 := by
        simp only [hv]; by_cases hk : k = 0 <;> simp [hk] <;> rfl
      rw [h1]; simp [Scalar.select, hv]
  · unfold nibR
    rw [hs]
    by_cases hv : v < 0
    · simp only [hv]; fin_cases k <;> rfl
    · simp only [hv]; fin_cases k <;> rfl

/-- The kernel's code of the rounded number is the reference's. -/
theorem nibK_rnd (v a : EReal) : nibK (rnd v a) = nibR v a := by
  obtain ⟨k, neg, h1, h2⟩ := at_sign v a
  rw [h1, h2, nibK_of]

/-- The reference's code stands for the rounded number. -/
theorem dec_nibR (v a : EReal) : dec (nibR v a) = rnd v a := by
  obtain ⟨k, neg, h1, h2⟩ := at_sign v a
  rw [h1, h2]
  have f : ∀ k : Fin 8, dec (BitVec.ofNat 32 k.val) = magOf k := by
    intro k; fin_cases k <;> rfl
  have g : ∀ k : Fin 8, dec (BitVec.ofNat 32 (k.val + 8)) = 0 - magOf k := by
    intro k; fin_cases k <;> rfl
  by_cases hk : neg ∧ k ≠ 0
  · rw [if_pos hk, g, magOf_eq]; simp [hk.1]
  · rw [if_neg hk, Nat.add_zero, f, magOf_eq]
    by_cases hn : neg
    · have : k = 0 := by_contra fun h => hk ⟨hn, h⟩
      subst this; simp [magR]
    · simp [hn]

/-! ### The weights' codes -/

/-- The low four bits of a weight byte. -/
def lo (w : BitVec 8) : BitVec 32 := IntOp.andi (BitVec.setWidth 32 w) 15#32
/-- The high four bits of a weight byte. -/
def hi (w : BitVec 8) : BitVec 32 := IntOp.shrsi .vector (BitVec.setWidth 32 w) 4#32

theorem lo_lt (w : BitVec 8) : ∃ k : Fin 16, lo w = BitVec.ofNat 32 k.val := by
  have : ∀ w : BitVec 8, ∃ k : Fin 16, lo w = BitVec.ofNat 32 k.val := by decide +kernel
  exact this w
theorem hi_lt (w : BitVec 8) : ∃ k : Fin 16, hi w = BitVec.ofNat 32 k.val := by
  have : ∀ w : BitVec 8, ∃ k : Fin 16, hi w = BitVec.ofNat 32 k.val := by decide +kernel
  exact this w

theorem half_int (n : ℤ) : ((n : ℝ) : EReal) * Ideal.ofBits .f32 0x3F000000#32 = (((n : ℝ) / 2 : ℝ) : EReal) := by
  rw [c0_5, ← EReal.coe_mul]; congr 1; ring

/-- The kernel's number of a four-bit code is the reference's. -/
theorem decK_eq (k : Fin 16) : decK (BitVec.ofNat 32 k.val) = dec (BitVec.ofNat 32 k.val) := by
  have f : ∀ k : Fin 8, dec (BitVec.ofNat 32 k.val) = magOf k := by
    intro k; fin_cases k <;> rfl
  have g : ∀ k : Fin 8, dec (BitVec.ofNat 32 (k.val + 8)) = 0 - magOf k := by
    intro k; fin_cases k <;> rfl
  have i : ∀ k : Fin 16, decK (BitVec.ofNat 32 k.val) = (((![0, 1, 2, 3, 4, 6, 8, 12, 0, -1, -2, -3, -4, -6, -8, -12] k : ℤ) : ℝ) : EReal) * Ideal.ofBits .f32 0x3F000000#32 := by
    intro k; fin_cases k <;> rfl
  rw [i, half_int]
  by_cases hk : k.val < 8
  · rw [f ⟨k.val, hk⟩, magOf_eq]
    obtain ⟨k, h⟩ := k
    congr 1
    have : k < 8 := hk
    interval_cases k <;> norm_num [magR]
  · obtain ⟨k, h⟩ := k
    obtain ⟨j, rfl⟩ : ∃ j, k = j + 8 := ⟨k - 8, by simp at hk; omega⟩
    have hj : j < 8 := by omega
    rw [g ⟨j, hj⟩, magOf_eq, zero_sub, ← EReal.coe_neg]
    congr 1
    interval_cases j <;> norm_num [magR]

theorem decK_lo (w : BitVec 8) : decK (lo w) = dec (lo w) := by
  obtain ⟨k, h⟩ := lo_lt w; rw [h, decK_eq]
theorem decK_hi (w : BitVec 8) : decK (hi w) = dec (hi w) := by
  obtain ⟨k, h⟩ := hi_lt w; rw [h, decK_eq]

end Cert.Nv

end
-- ==== Proof.Model.lean ====
module

public import proofs.«01_k».proof.Proof.Spec

/-!
The results as functions of the inputs, on the extended reals: the block maxima, the segment scales, the
block scales, the codes, the quantised activations and the product. The forms in which the kernel and the
reference compute a segment's maximum and the product's sum are shown equal to these.
-/

@[expose] public section

noncomputable section

namespace Cert.Nv

open Idealize.ShloMosaic Idealize.ShloMosaic.TcCoe

/-- The size of a number. -/
abbrev ab (x : EReal) : EReal := max x (-x)

theorem ab_nonneg (x : EReal) : 0 ≤ ab x := by
  rcases le_total 0 x with h | h
  · exact h.trans (le_max_left _ _)
  · exact (EReal.neg_nonneg.2 h).trans (le_max_right _ _)

/-- The activations, one row per token. -/
abbrev Acts := Fin 128 → Fin 4096 → EReal

/-- The largest size in block `b` of token `t`. -/
def bm (X : Acts) (t : Fin 128) (b : Fin 256) : EReal :=
  Finset.univ.fold max (Ideal.ofBits .f32 0xFF800000#32) fun e : Fin 16 =>
    ab (X t ⟨b.val * 16 + e.val, by have := b.isLt; have := e.isLt; omega⟩)

/-- The largest size in segment `a`, 64 tokens. -/
def amax (X : Acts) (a : Fin 2) : EReal :=
  Finset.univ.fold max (Ideal.ofBits .f32 0xFF800000#32) fun b : Fin 64 =>
    Finset.univ.fold max (Ideal.ofBits .f32 0xFF800000#32) fun d : Fin 4096 =>
      ab (X ⟨a.val * 64 + b.val, by have := a.isLt; have := b.isLt; omega⟩ d)

/-- The segment of token `t`. -/
abbrev seg (t : Fin 128) : Fin 2 := ⟨t.val / 64, by have := t.isLt; omega⟩
/-- The block of column `d`. -/
abbrev blk (d : Fin 4096) : Fin 256 := ⟨d.val / 16, by have := d.isLt; omega⟩

/-- The scale of segment `a`. -/
def gs (X : Acts) (a : Fin 2) : EReal :=
  if amax X a = 0 then 1 else Ideal.div (amax X a) (Ideal.ofBits .f32 0x45280000#32)
/-- The scale of block `b` of token `t`. -/
def sc (X : Acts) (t : Fin 128) (b : Fin 256) : EReal :=
  min (Ideal.ofBits .f32 0x43E00000#32) (max 0 (Ideal.div (bm X t b * Ideal.ofBits .f32 0x3F800800#32)
    (Ideal.ofBits .f32 0x40C00000#32 * gs X (seg t))))
/-- What the numbers of block `b` of token `t` are divided by. -/
def den (X : Acts) (t : Fin 128) (b : Fin 256) : EReal :=
  if sc X t b = 0 then 1 else sc X t b * gs X (seg t)
/-- The size of column `d` of token `t` at its block's scale, clipped. -/
def aq (X : Acts) (t : Fin 128) (d : Fin 4096) : EReal :=
  min (Ideal.div (ab (X t d)) (den X t (blk d))) (Ideal.ofBits .f32 0x40C00000#32)
/-- The four-bit code of column `d` of token `t`. -/
def nib (X : Acts) (t : Fin 128) (d : Fin 4096) : BitVec 32 := nibR (X t d) (aq X t d)
/-- The quantised activation at column `d` of token `t`, at its block's scale. -/
def xq (X : Acts) (t : Fin 128) (d : Fin 4096) : EReal := rnd (X t d) (aq X t d) * sc X t (blk d)
/-- The even and the odd column of pair `p`. -/
abbrev ev (p : Fin 2048) : Fin 4096 := ⟨p.val * 2, by have := p.isLt; omega⟩
abbrev od (p : Fin 2048) : Fin 4096 := ⟨p.val * 2 + 1, by have := p.isLt; omega⟩
/-- The byte of pair `p` of token `t`: the even column's code in the low half. -/
def code (X : Acts) (t : Fin 128) (p : Fin 2048) : BitVec 8 :=
  BitVec.setWidth 8 (IntOp.ori (nib X t (ev p)) (IntOp.shli .vector (nib X t (od p)) 4#32))
/-- A weight row's number at column `d`, from its bytes `w` and its block scales `s`. -/
def wq (w : Fin 2048 → BitVec 8) (s : Fin 256 → EReal) (d : Fin 4096) : EReal :=
  dec (if d.val % 2 < 1 then lo (w ⟨d.val / 2, by have := d.isLt; omega⟩) else hi (w ⟨d.val / 2, by have := d.isLt; omega⟩)) * s (blk d)
/-- The product at token `t` for one weight row. -/
def outM (X : Acts) (w : Fin 2048 → BitVec 8) (s : Fin 256 → EReal) (wg : EReal) (t : Fin 128) : EReal :=
  (∑ d : Fin 4096, xq X t d * wq w s d) * gs X (seg t) * wg

/-! ### Maxima by their upper bounds -/

theorem fold_le {ι : Type} [Fintype ι] (f : ι → EReal) (c : EReal) :
    Finset.univ.fold max (Ideal.ofBits .f32 0xFF800000#32) f ≤ c ↔ ∀ i, f i ≤ c := by
  rw [Finset.fold_max_le, cBot]; simp

theorem bm_le (X : Acts) (t : Fin 128) (b : Fin 256) (c : EReal) :
    bm X t b ≤ c ↔ ∀ e : Fin 16, ab (X t ⟨b.val * 16 + e.val, by have := b.isLt; have := e.isLt; omega⟩) ≤ c := fold_le _ _

theorem amax_le (X : Acts) (a : Fin 2) (c : EReal) :
    amax X a ≤ c ↔ ∀ (b : Fin 64) (d : Fin 4096), ab (X ⟨a.val * 64 + b.val, by have := a.isLt; have := b.isLt; omega⟩ d) ≤ c := by
  unfold amax; rw [fold_le]; exact forall_congr' fun b => fold_le _ _

/-- A token's maximum over its blocks is over its columns. -/
theorem row_le (X : Acts) (t : Fin 128) (c : EReal) :
    Finset.univ.fold max (Ideal.ofBits .f32 0xFF800000#32) (fun b : Fin 256 => bm X t b) ≤ c ↔ ∀ d : Fin 4096, ab (X t d) ≤ c := by
  rw [fold_le]
  constructor
  · intro h d
    have := (bm_le X t (blk d) c).1 (h _) ⟨d.val % 16, Nat.mod_lt _ (by decide)⟩
    have e : (⟨(blk d).val * 16 + (⟨d.val % 16, Nat.mod_lt _ (by decide)⟩ : Fin 16).val, by
        have := d.isLt; show d.val / 16 * 16 + d.val % 16 < 4096; omega⟩ : Fin 4096) = d :=
      Fin.ext (Nat.div_add_mod' d.val 16)
    rw [e] at this; exact this
  · intro h b; rw [bm_le]; intro e; exact h _

theorem sel1 {α : Type} (a b : α) : Scalar.select 1#1 a b = a := rfl
theorem sel0 {α : Type} (a b : α) : Scalar.select 0#1 a b = b := rfl
theorem slt64 (t : Fin 128) : IntOp.cmpi .slt (BitVec.ofNat 32 t.val) 64#32 = if t.val < 64 then 1#1 else 0#1 := by
  revert t; decide

/-- The kernel's maximum of a token's segment: over all tokens, those of the other segment counted as zero. -/
theorem amaxK (X : Acts) (t : Fin 128) :
    Scalar.select (IntOp.cmpi .slt (BitVec.ofNat 32 t.val) 64#32)
      (Finset.univ.fold max (Ideal.ofBits .f32 0xFF800000#32) fun x : Fin 128 =>
        Scalar.select (IntOp.cmpi .slt (BitVec.ofNat 32 x.val) 64#32)
          (Finset.univ.fold max (Ideal.ofBits .f32 0xFF800000#32) fun b : Fin 256 => bm X x b) 0)
      (Finset.univ.fold max (Ideal.ofBits .f32 0xFF800000#32) fun x : Fin 128 =>
        Scalar.select (IntOp.cmpi .slt (BitVec.ofNat 32 x.val) 64#32) 0
          (Finset.univ.fold max (Ideal.ofBits .f32 0xFF800000#32) fun b : Fin 256 => bm X x b))
      = amax X (seg t) := by
  refine eq_of_forall_ge_iff fun c => ?_
  rw [amax_le, slt64]
  by_cases ht : t.val < 64
  · rw [if_pos ht, sel1, fold_le]
    have hs : (seg t).val = 0 := Nat.div_eq_of_lt ht
    generalize seg t = a at hs ⊢
    constructor
    · intro h b d
      have hb := h ⟨b.val, by have := b.isLt; omega⟩
      rw [slt64, if_pos b.isLt, sel1] at hb
      have := (row_le X _ c).1 hb d
      convert this using 4
      simp [hs]
    · intro h x
      rw [slt64]
      by_cases hx : x.val < 64
      · rw [if_pos hx, sel1]
        refine (row_le X x c).2 fun d => ?_
        have := h ⟨x.val, hx⟩ d
        convert this using 4
        simp [hs]
      · rw [if_neg hx, sel0]
        exact (ab_nonneg _).trans (h 0 0)
  · rw [if_neg ht, sel0, fold_le]
    have hs : (seg t).val = 1 := by have := t.isLt; show t.val / 64 = 1; omega
    generalize seg t = a at hs ⊢
    constructor
    · intro h b d
      have hb := h ⟨64 + b.val, by have := b.isLt; omega⟩
      rw [slt64, if_neg (by simp), sel0] at hb
      have := (row_le X _ c).1 hb d
      convert this using 4
      simp [hs]
    · intro h x
      rw [slt64]
      by_cases hx : x.val < 64
      · rw [if_pos hx, sel1]
        exact (ab_nonneg _).trans (h 0 0)
      · rw [if_neg hx, sel0]
        refine (row_le X x c).2 fun d => ?_
        have := h ⟨x.val - 64, by have := x.isLt; omega⟩ d
        convert this using 4
        simp [hs]; omega

/-! ### The product's sum -/

/-- The sum over the even columns plus the sum over the odd columns is the sum over all of them. -/
theorem sum_pairs (f : Fin 4096 → EReal) : (∑ p : Fin 2048, f (ev p)) + (∑ p : Fin 2048, f (od p)) = ∑ d, f d := by
  rw [← Finset.sum_add_distrib, Fin.sum_univ_tiles 2048 2 rfl f]
  refine Finset.sum_congr rfl fun p _ => ?_
  rw [Fin.sum_univ_two]
  rfl

/-- The reference's two sums, over the low and over the high halves of the bytes. -/
theorem outR (X : Acts) (w : Fin 2048 → BitVec 8) (s : Fin 256 → EReal) (t : Fin 128) :
    (∑ p : Fin 2048, xq X t (ev p) * (dec (lo (w p)) * s ⟨p.val / 8, by have := p.isLt; omega⟩))
      + (∑ p : Fin 2048, xq X t (od p) * (dec (hi (w p)) * s ⟨p.val / 8, by have := p.isLt; omega⟩))
      = ∑ d : Fin 4096, xq X t d * wq w s d := by
  rw [← sum_pairs]
  have he : ∀ p : Fin 2048, wq w s (ev p) = dec (lo (w p)) * s ⟨p.val / 8, by have := p.isLt; omega⟩ := by
    intro p; unfold wq
    rw [if_pos (by show p.val * 2 % 2 < 1; omega)]
    congr 3
    · congr 1; apply Fin.ext; show p.val * 2 / 2 = p.val; omega
    · apply Fin.ext; show p.val * 2 / 16 = p.val / 8; omega
  have ho : ∀ p : Fin 2048, wq w s (od p) = dec (hi (w p)) * s ⟨p.val / 8, by have := p.isLt; omega⟩ := by
    intro p; unfold wq
    rw [if_neg (by show ¬ (p.val * 2 + 1) % 2 < 1; omega)]
    congr 3
    · congr 1; apply Fin.ext; show (p.val * 2 + 1) / 2 = p.val; omega
    · apply Fin.ext; show (p.val * 2 + 1) / 16 = p.val / 8; omega
  simp only [he, ho]

end Cert.Nv

end
-- ==== Proof.KVal.lean ====
module

public import proofs.«01_k».proof.Proof.RunVal
public import proofs.«01_k».proof.Proof.Model

/-!
What the kernel's first point leaves, index by index, on the extended reals: the block maxima, the segment
scales, the block scales, the codes and the quantised activations are those of the model.
-/

@[expose] public section

set_option maxRecDepth 16384

noncomputable section

namespace Cert.KernelIdeal.Gen

open Idealize.ShloMosaic Idealize.ShloMosaic.TcCoe Idealize.ShloMosaic.Tactic
open Cert.Nv

/-- Pieces that are a family over a finite index, agreeing with one function and covering the block, leave
    that function. -/
theorem canon_fam {S : Shape} {e : EltTy} {n : ℕ} (r : Fin n → Rect S) (f : (q : Fin n) → (r q).shape.Idx → Elt Ideal e)
    (L : List (View.Piece (Elt Ideal) S e)) (G : S.Idx → Elt Ideal e)
    (hL : ∀ p ∈ L, ∃ q, p = ⟨r q, f q⟩) (hM : ∀ q, (⟨r q, f q⟩ : View.Piece (Elt Ideal) S e) ∈ L)
    (agree : ∀ q i, f q i = G ((r q).emb i)) (cover : ∀ y, ∃ q i, (r q).emb i = y) : View.canon L = G := by
  funext y
  refine View.canon_apply_of_pieces G L (fun p hp i => ?_) y ?_
  · obtain ⟨q, rfl⟩ := hL p hp; exact agree q i
  · obtain ⟨q, i, h⟩ := cover y
    exact ⟨_, hM q, by rw [← h]; exact (r q).idx_mem i⟩

/-- A piece of one of eight, of four. -/
theorem fam8 {α : Type} (g : Fin 8 → α) : (∀ p ∈ [g 7, g 6, g 5, g 4, g 3, g 2, g 1, g 0], ∃ q, p = g q) ∧
    ∀ q, g q ∈ [g 7, g 6, g 5, g 4, g 3, g 2, g 1, g 0] := by
  constructor
  · intro p hp
    simp only [List.mem_cons, List.not_mem_nil, or_false] at hp
    rcases hp with rfl | rfl | rfl | rfl | rfl | rfl | rfl | rfl <;> exact ⟨_, rfl⟩
  · intro q; fin_cases q <;> simp
theorem fam4 {α : Type} (g : Fin 4 → α) : (∀ p ∈ [g 3, g 2, g 1, g 0], ∃ q, p = g q) ∧ ∀ q, g q ∈ [g 3, g 2, g 1, g 0] := by
  constructor
  · intro p hp
    simp only [List.mem_cons, List.not_mem_nil, or_false] at hp
    rcases hp with rfl | rfl | rfl | rfl <;> exact ⟨_, rfl⟩
  · intro q; fin_cases q <;> simp

/-- The activations of the block, one row per token. -/
abbrev acts (x1 : Vec Ideal S128x4096 .bf16) : Acts := fun t d => x1 (ix2 t d)

theorem emb_rT (q : Fin 8) (b : Fin 32) (t : Fin 128) :
    (rT q).emb (ix2 b t) = ix2 (⟨32 * q.val + b.val, by have := q.isLt; have := b.isLt; omega⟩ : Fin 256) t := by
  funext a; fin_cases a <;> apply Fin.ext <;> simp [Rect.emb_apply]
theorem emb_rXc (q : Fin 8) (t : Fin 128) (d : Fin 512) :
    (rXc q).emb (ix2 t d) = ix2 t (⟨512 * q.val + d.val, by have := q.isLt; have := d.isLt; omega⟩ : Fin 4096) := by
  funext a; fin_cases a <;> apply Fin.ext <;> simp [Rect.emb_apply]
theorem emb_rCc (q : Fin 8) (t : Fin 128) (d : Fin 256) :
    (rCc q).emb (ix2 t d) = ix2 t (⟨256 * q.val + d.val, by have := q.isLt; have := d.isLt; omega⟩ : Fin 2048) := by
  funext a; fin_cases a <;> apply Fin.ext <;> simp [Rect.emb_apply]

theorem cover_rT (y : S256x128.Idx) : ∃ q i, (rT q).emb i = y := by
  idx_vars y; rename' y0 => b, y1 => t
  refine ⟨⟨b.val / 32, by have := b.isLt; omega⟩, ix2 (⟨b.val % 32, Nat.mod_lt _ (by decide)⟩ : Fin 32) t, ?_⟩
  rw [emb_rT]; congr 1; exact Fin.ext (Nat.div_add_mod b.val 32)
theorem cover_rXc (y : S128x4096.Idx) : ∃ q i, (rXc q).emb i = y := by
  idx_vars y; rename' y0 => t, y1 => d
  refine ⟨⟨d.val / 512, by have := d.isLt; omega⟩, ix2 t (⟨d.val % 512, Nat.mod_lt _ (by decide)⟩ : Fin 512), ?_⟩
  rw [emb_rXc]; congr 1; exact Fin.ext (Nat.div_add_mod d.val 512)
theorem cover_rCc (y : S128x2048.Idx) : ∃ q i, (rCc q).emb i = y := by
  idx_vars y; rename' y0 => t, y1 => d
  refine ⟨⟨d.val / 256, by have := d.isLt; omega⟩, ix2 t (⟨d.val % 256, Nat.mod_lt _ (by decide)⟩ : Fin 256), ?_⟩
  rw [emb_rCc]; congr 1; exact Fin.ext (Nat.div_add_mod d.val 256)

/-! ### The maxima and the scales -/

theorem pay3_at (x1 : Vec Ideal S128x4096 .bf16) (q : Fin 8) (b : Fin 32) (t : Fin 128) :
    k0_pay3 (View.ld x1 (rXc q)) (ix2 b t) = bm (acts x1) t ⟨32 * q.val + b.val, by have := q.isLt; have := b.isLt; omega⟩ := by
  pointwise [k0_pay3]
  unfold bm
  refine Finset.fold_congr fun e _ => ?_
  rw [Ideal.absf_def]
  have h : ∀ i j : Fin 4096, i = j → ab (x1 (ix2 t i)) = ab (x1 (ix2 t j)) := fun i j h => by rw [h]
  exact h _ _ (Fin.ext (by simp; omega))

theorem tFn_eq (x1 : Vec Ideal S128x4096 .bf16) : tFn x1 = fun i => bm (acts x1) (i 1) (i 0) := by
  have h := fam8 fun q => (⟨rT q, k0_pay3 (View.ld x1 (rXc q))⟩ : View.Piece (Elt Ideal) S256x128 .f32)
  refine canon_fam (S := S256x128) (e := .f32) rT (fun q => k0_pay3 (View.ld x1 (rXc q))) _ _ h.1 h.2 (fun q i => ?_) cover_rT
  idx_vars i; rename' i0 => b, i1 => t
  rw [emb_rT]; exact pay3_at x1 q b t

theorem tFn_apply (x1 : Vec Ideal S128x4096 .bf16) (b : Fin 256) (t : Fin 128) : tFn x1 (ix2 b t) = bm (acts x1) t b := by
  exact congrFun (tFn_eq x1) (ix2 b t)

theorem gFn_apply (x1 : Vec Ideal S128x4096 .bf16) (t : Fin 128) : gFn x1 (ix2 0 t) = gs (acts x1) (seg t) := by
  unfold gFn
  pointwise [k0_pay13]
  simp only [tFn_apply, amaxK]
  rfl

theorem pay14_at (x1 : Vec Ideal S128x4096 .bf16) (b : Fin 256) (t : Fin 128) :
    k0_pay15 cE4M3 (k0_pay14 (tFn x1)) (ix2 b t) = sc (acts x1) t b := by
  have hg := gFn_apply x1 t
  unfold gFn at hg
  pointwise [k0_pay15, k0_pay14, cE4M3]
  rw [hg, tFn_apply]
  rfl

theorem sFn_apply (x1 : Vec Ideal S128x4096 .bf16) (t : Fin 128) (b : Fin 256) : sFn x1 (ix2 t b) = sc (acts x1) t b := by
  unfold sFn
  pointwise [k0_pay17]
  exact pay14_at x1 b t

theorem scFn_apply (x1 : Vec Ideal S128x4096 .bf16) (b : Fin 256) (t : Fin 128) : scFn x1 (ix2 b t) = sc (acts x1) t b := by
  unfold scFn
  pointwise [k0_pay19, k0_pay16]
  exact pay14_at x1 b t

theorem dFn_apply (x1 : Vec Ideal S128x4096 .bf16) (b : Fin 256) (t : Fin 128) : dFn x1 (ix2 b t) = den (acts x1) t b := by
  have hg := gFn_apply x1 t
  unfold gFn at hg
  have hs : k0_pay15 (F := Ideal) (Ideal.ofBits .f32 0x43E00000#32) (k0_pay14 (tFn x1)) (ix2 b t) = sc (acts x1) t b := pay14_at x1 b t
  unfold dFn
  pointwise [k0_pay18, k0_pay16]
  rw [hg, hs]
  rfl

/-! ### The codes and the quantised activations -/

/-- A chunk's rounded quotient from the number and its denominator. -/
theorem valC_apply (x : Vec Ideal S128x512 .bf16) (dn : Vec Ideal S32x128 .f32) (d : Fin 512) (t : Fin 128) :
    valC x dn (ix2 d t) = rnd (x (ix2 t d)) (min (Ideal.div (ab (x (ix2 t d)))
      (dn (ix2 ⟨d.val / 16, by have := d.isLt; omega⟩ t))) (Ideal.ofBits .f32 0x40C00000#32)) := by
  pointwise [valC, k0_pay20, k0_pay21, k0_pay22, k0_pay23, k0_pay24]
  rfl

theorem xqC_apply (x : Vec Ideal S128x512 .bf16) (dn s : Vec Ideal S32x128 .f32) (d : Fin 512) (t : Fin 128) :
    xqC x dn s (ix2 t d) = valC x dn (ix2 d t) * s (ix2 ⟨d.val / 16, by have := d.isLt; omega⟩ t) := by
  unfold xqC
  pointwise [k0_pay25]
  rfl

theorem codeC_apply (x : Vec Ideal S128x512 .bf16) (dn : Vec Ideal S32x128 .f32) (p : Fin 256) (t : Fin 128) :
    codeC x dn (ix2 t p) = BitVec.setWidth 8 (IntOp.ori
      (nibK (valC x dn (ix2 ⟨p.val * 2, by have := p.isLt; omega⟩ t)))
      (IntOp.shli .vector (nibK (valC x dn (ix2 ⟨p.val * 2 + 1, by have := p.isLt; omega⟩ t))) 4#32)) := by
  unfold codeC
  generalize valC x dn = v
  pointwise [k0_pay30, k0_pay28, k0_pay29, k0_pay27]
  rfl

/-- A chunk's rounded quotient is the model's. -/
theorem val_at (x1 : Vec Ideal S128x4096 .bf16) (q : Fin 8) (d : Fin 512) (t : Fin 128) (e : Fin 4096)
    (he : e.val = 512 * q.val + d.val) :
    valC (View.ld x1 (rXc q)) (View.ld (dFn x1) (rT q)) (ix2 d t) = rnd (acts x1 t e) (aq (acts x1) t e) := by
  have h1 : View.ld x1 (rXc q) (ix2 t d) = acts x1 t e := by
    show x1 ((rXc q).emb (ix2 t d)) = _
    rw [emb_rXc]; exact congrArg (fun i => x1 (ix2 t i)) (Fin.ext he.symm)
  have h2 : View.ld (dFn x1) (rT q) (ix2 (⟨d.val / 16, by have := d.isLt; omega⟩ : Fin 32) t) = den (acts x1) t (blk e) := by
    show dFn x1 ((rT q).emb (ix2 _ t)) = _
    rw [emb_rT, dFn_apply]; exact congrArg (den (acts x1) t) (Fin.ext (by simp [he]; omega))
  rw [valC_apply, h1, h2]
  rfl

theorem xqFn_apply (x1 : Vec Ideal S128x4096 .bf16) (t : Fin 128) (d : Fin 4096) : xqFn x1 (ix2 t d) = xq (acts x1) t d := by
  have h := fam8 fun q => (⟨rXc q, xqC (View.ld x1 (rXc q)) (View.ld (dFn x1) (rT q)) (View.ld (scFn x1) (rT q))⟩ : View.Piece (Elt Ideal) S128x4096 .bf16)
  have e : xqFn x1 = fun i => xq (acts x1) (i 0) (i 1) := by
    refine canon_fam (S := S128x4096) (e := .bf16) rXc (fun q => xqC (View.ld x1 (rXc q)) (View.ld (dFn x1) (rT q)) (View.ld (scFn x1) (rT q))) _ _ h.1 h.2 (fun q i => ?_) cover_rXc
    idx_vars i; rename' i0 => t, i1 => d
    rw [emb_rXc, xqC_apply, val_at x1 q d t ⟨512 * q.val + d.val, by have := q.isLt; have := d.isLt; omega⟩ rfl]
    have h2 : View.ld (scFn x1) (rT q) (ix2 (⟨d.val / 16, by have := d.isLt; omega⟩ : Fin 32) t)
        = sc (acts x1) t (blk ⟨512 * q.val + d.val, by have := q.isLt; have := d.isLt; omega⟩) := by
      show scFn x1 ((rT q).emb (ix2 _ t)) = _
      rw [emb_rT, scFn_apply]; exact congrArg (sc (acts x1) t) (Fin.ext (by simp; omega))
    rw [h2]
    rfl
  exact congrFun e (ix2 t d)

theorem codesFn_apply (x1 : Vec Ideal S128x4096 .bf16) (t : Fin 128) (p : Fin 2048) : codesFn x1 (ix2 t p) = code (acts x1) t p := by
  have h := fam8 fun q => (⟨rCc q, codeC (View.ld x1 (rXc q)) (View.ld (dFn x1) (rT q))⟩ : View.Piece (Elt Ideal) S128x2048 .i8)
  have e : codesFn x1 = fun i => code (acts x1) (i 0) (i 1) := by
    refine canon_fam (S := S128x2048) (e := .i8) rCc (fun q => codeC (View.ld x1 (rXc q)) (View.ld (dFn x1) (rT q))) _ _ h.1 h.2 (fun q i => ?_) cover_rCc
    idx_vars i; rename' i0 => t, i1 => p
    rw [emb_rCc, codeC_apply,
      val_at x1 q ⟨p.val * 2, by have := p.isLt; omega⟩ t (ev ⟨256 * q.val + p.val, by have := q.isLt; have := p.isLt; omega⟩) (by simp; omega),
      val_at x1 q ⟨p.val * 2 + 1, by have := p.isLt; omega⟩ t (od ⟨256 * q.val + p.val, by have := q.isLt; have := p.isLt; omega⟩) (by simp; omega),
      nibK_rnd, nibK_rnd]
    rfl
  exact congrFun e (ix2 t p)

end Cert.KernelIdeal.Gen

end
-- ==== Proof.KTile.lean ====
module

public import proofs.«01_k».proof.Proof.KVal

/-!
What a point of the kernel leaves of the product, index by index, on the extended reals: the sum over all
columns, by the token's segment scale, by the weight's global scale.
-/

@[expose] public section

set_option maxRecDepth 16384

noncomputable section

namespace Cert.KernelIdeal.Gen

open Idealize.ShloMosaic Idealize.ShloMosaic.TcCoe Idealize.ShloMosaic.Tactic
open Cert.Nv

/-- Row `d` of a weight tile's scales is its block's row. -/
theorem scTile_apply (r : Fin 16 → Vec Ideal S1x256 .f32) (d j : Fin 256) (k : Fin 16) (hk : d.val / 16 = k.val) :
    scTile r (ix2 d j) = r k (ix2 0 j) := by
  pointwise [scTile, k0_pay1039]
  fin_cases k <;> simp at hk <;> (repeat (first | rw [dif_pos (by omega)] | rw [dif_neg (by omega)])) <;> rfl

/-- A decoded weight tile. -/
theorem wTile_apply (w : Vec Ideal S256x128 .i8) (d j : Fin 256) :
    k0_pay1038 w (ix2 d j) = dec (if d.val % 2 < 1 then lo (w (ix2 j ⟨d.val / 2, by have := d.isLt; omega⟩))
      else hi (w (ix2 j ⟨d.val / 2, by have := d.isLt; omega⟩))) := by
  have e : k0_pay1038 w (ix2 d j) = decK (if d.val % 2 < 1 then lo (w (ix2 j ⟨d.val / 2, by have := d.isLt; omega⟩))
      else hi (w (ix2 j ⟨d.val / 2, by have := d.isLt; omega⟩))) := by
    pointwise [k0_pay1038]
    rfl
  rw [e]
  by_cases h : d.val % 2 < 1
  · rw [if_pos h, decK_lo]
  · rw [if_neg h, decK_hi]

theorem stepTile_apply (acc : FVec Ideal S128x256 .f32) (x : Vec Ideal S128x256 .bf16) (w : Vec Ideal S256x128 .i8)
    (r : Fin 16 → Vec Ideal S1x256 .f32) (t : Fin 128) (j : Fin 256) :
    stepTile acc x w r (ix2 t j) = acc (ix2 t j) + ∑ e : Fin 256, x (ix2 t e) * (k0_pay1038 w (ix2 e j) * scTile r (ix2 e j)) := by
  pointwise [stepTile]

/-- The accumulator is the sum over the steps so far. -/
theorem accTile_apply (x : Fin 16 → Vec Ideal S128x256 .bf16) (w : Fin 16 → Vec Ideal S256x128 .i8)
    (r : Fin 16 → Fin 16 → Vec Ideal S1x256 .f32) (t : Fin 128) (j : Fin 256) : ∀ (n : ℕ) (hn : n ≤ 16),
    accTile x w r n hn (ix2 t j) = ∑ k : Fin n, ∑ e : Fin 256, x ⟨k.val, k.isLt.trans_le hn⟩ (ix2 t e)
      * (k0_pay1038 (w ⟨k.val, k.isLt.trans_le hn⟩) (ix2 e j) * scTile (r ⟨k.val, k.isLt.trans_le hn⟩) (ix2 e j))
  | 0, _ => by
    rw [accTile, Finset.univ_eq_empty, Finset.sum_empty]
    pointwise []
  | n + 1, hn => by
    rw [accTile, stepTile_apply, accTile_apply x w r t j n]
    exact (Fin.sum_univ_castSucc (fun k : Fin (n + 1) => ∑ e : Fin 256, x ⟨k.val, k.isLt.trans_le hn⟩ (ix2 t e)
      * (k0_pay1038 (w ⟨k.val, k.isLt.trans_le hn⟩) (ix2 e j) * scTile (r ⟨k.val, k.isLt.trans_le hn⟩) (ix2 e j)))).symm

theorem emb_rO (n : Fin 4) (t : Fin 128) (j : Fin 256) :
    (rO n).emb (ix2 t j) = ix2 t (⟨256 * n.val + j.val, by have := n.isLt; have := j.isLt; omega⟩ : Fin 1024) := by
  funext a; fin_cases a <;> apply Fin.ext <;> simp [Rect.emb_apply]
theorem emb_rX (k : Fin 16) (t : Fin 128) (e : Fin 256) :
    (rX k).emb (ix2 t e) = ix2 t (⟨256 * k.val + e.val, by have := k.isLt; have := e.isLt; omega⟩ : Fin 4096) := by
  funext a; fin_cases a <;> apply Fin.ext <;> simp [Rect.emb_apply]
theorem emb_rW (n : Fin 4) (k : Fin 16) (j : Fin 256) (p : Fin 128) :
    (rW n k).emb (ix2 j p) = ix2 (⟨256 * n.val + j.val, by have := n.isLt; have := j.isLt; omega⟩ : Fin 1024)
      (⟨128 * k.val + p.val, by have := k.isLt; have := p.isLt; omega⟩ : Fin 2048) := by
  funext a; fin_cases a <;> apply Fin.ext <;> simp [Rect.emb_apply]
theorem emb_rS (n : Fin 4) (k b : Fin 16) (j : Fin 256) :
    (rS n k b).emb (ix2 0 j) = ix2 (⟨16 * k.val + b.val, by have := k.isLt; have := b.isLt; omega⟩ : Fin 256)
      (⟨256 * n.val + j.val, by have := n.isLt; have := j.isLt; omega⟩ : Fin 1024) := by
  funext a; fin_cases a <;> apply Fin.ext <;> simp [Rect.emb_apply]

theorem cover_rO (y : S128x1024.Idx) : ∃ q i, (rO q).emb i = y := by
  idx_vars y; rename' y0 => t, y1 => d
  refine ⟨⟨d.val / 256, by have := d.isLt; omega⟩, ix2 t (⟨d.val % 256, Nat.mod_lt _ (by decide)⟩ : Fin 256), ?_⟩
  rw [emb_rO]; congr 1; exact Fin.ext (Nat.div_add_mod d.val 256)

theorem pay100_apply (x3 : Vec Ideal S1024x256 .fp8e4m3) (b : Fin 256) (j : Fin 1024) : k0_pay100 x3 (ix2 b j) = x3 (ix2 j b) := by
  pointwise [k0_pay100]

/-- Row `j` of a block of weights. -/
abbrev wRow (x2 : Vec Ideal S1024x2048 .i8) (j : Fin 1024) : Fin 2048 → BitVec 8 := fun p => x2 (ix2 j p)
/-- Row `j` of a block of weight scales. -/
abbrev sRow (x3 : Vec Ideal S1024x256 .fp8e4m3) (j : Fin 1024) : Fin 256 → EReal := fun b => x3 (ix2 j b)

/-- One column tile of the product at one index. -/
theorem tile_at (wg : EReal) (x2 : Vec Ideal S1024x2048 .i8) (x3 : Vec Ideal S1024x256 .fp8e4m3)
    (X : Vec Ideal S128x4096 .bf16) (g : Vec Ideal S1x128 .f32) (n : Fin 4) (t : Fin 128) (j : Fin 256) (u : Fin 1024)
    (hu : u.val = 256 * n.val + j.val) :
    outTile (fun k => View.ld X (rX k)) (fun k => View.ld x2 (rW n k)) (fun k b => View.ld (k0_pay100 x3) (rS n k b)) g wg (ix2 t j)
      = (∑ d : Fin 4096, X (ix2 t d) * wq (wRow x2 u) (sRow x3 u) d) * g (ix2 0 t) * wg := by
  have eu : (⟨256 * n.val + j.val, by have := n.isLt; have := j.isLt; omega⟩ : Fin 1024) = u := Fin.ext hu.symm
  have hg : k0_pay101 g (ix2 t j) = g (ix2 0 t) := by
    pointwise [k0_pay101]
    simp
  have ha : accTile (fun k => View.ld X (rX k)) (fun k => View.ld x2 (rW n k)) (fun k b => View.ld (k0_pay100 x3) (rS n k b)) 16 le_rfl (ix2 t j)
      = ∑ d : Fin 4096, X (ix2 t d) * wq (wRow x2 u) (sRow x3 u) d := by
    rw [accTile_apply, Fin.sum_univ_tiles 16 256 rfl]
    refine Finset.sum_congr rfl fun k _ => Finset.sum_congr rfl fun e _ => ?_
    have hk := k.isLt
    have he := e.isLt
    have e1 : View.ld X (rX k) (ix2 t e) = X (ix2 t ⟨k.val * 256 + e.val, by omega⟩) := by
      show X ((rX k).emb (ix2 t e)) = _
      rw [emb_rX]; congr 2; exact Fin.ext (by simp; omega)
    have e2 : ∀ p : Fin 128, View.ld x2 (rW n k) (ix2 j p) = wRow x2 u ⟨128 * k.val + p.val, by have := p.isLt; omega⟩ := by
      intro p
      show x2 ((rW n k).emb (ix2 j p)) = _
      rw [emb_rW, eu]
    have e3 : View.ld (Val := Elt Ideal) (e' := .f32) (k0_pay100 (F := Ideal) x3) (rS n k ⟨e.val / 16, by omega⟩) (ix2 0 j) = sRow x3 u ⟨16 * k.val + e.val / 16, by omega⟩ := by
      show k0_pay100 x3 ((rS n k ⟨e.val / 16, by omega⟩).emb (ix2 0 j)) = _
      rw [emb_rS, eu, pay100_apply]
    rw [wTile_apply, scTile_apply _ e j ⟨e.val / 16, by omega⟩ rfl]
    show View.ld X (rX k) (ix2 t e) * (dec (if e.val % 2 < 1 then lo (View.ld x2 (rW n k) (ix2 j _)) else hi (View.ld x2 (rW n k) (ix2 j _)))
      * View.ld (Val := Elt Ideal) (e' := .f32) (k0_pay100 (F := Ideal) x3) (rS n k ⟨e.val / 16, by omega⟩) (ix2 0 j)) = _
    rw [e1, e2, e3]
    unfold wq
    have p1 : (⟨128 * k.val + e.val / 2, by omega⟩ : Fin 2048) = ⟨(k.val * 256 + e.val) / 2, by omega⟩ := Fin.ext (by show 128 * k.val + e.val / 2 = (k.val * 256 + e.val) / 2; omega)
    have p2 : (⟨16 * k.val + e.val / 16, by omega⟩ : Fin 256) = blk ⟨k.val * 256 + e.val, by omega⟩ := Fin.ext (by show 16 * k.val + e.val / 16 = (k.val * 256 + e.val) / 16; omega)
    have p3 : e.val % 2 = (k.val * 256 + e.val) % 2 := by omega
    simp only [p1, p2, p3]
  unfold outTile
  pointwise []
  rw [ha, hg]

theorem canon_outPieces (x : Fin 16 → Vec Ideal S128x256 .bf16) (w : Fin 4 → Fin 16 → Vec Ideal S256x128 .i8)
    (r : Fin 4 → Fin 16 → Fin 16 → Vec Ideal S1x256 .f32) (g : Vec Ideal S1x128 .f32) (wg : Elt Ideal .f32)
    (G : S128x1024.Idx → Elt Ideal .bf16) (agree : ∀ n i, outTile x (w n) (r n) g wg i = G ((rO n).emb i)) :
    View.canon (outPieces x w r g wg) = G := by
  have h := fam4 fun n => (⟨rO n, outTile x (w n) (r n) g wg⟩ : View.Piece (Elt Ideal) S128x1024 .bf16)
  exact canon_fam (S := S128x1024) (e := .bf16) rO (fun n => outTile x (w n) (r n) g wg) _ G h.1 h.2 agree cover_rO

/-- A point's block of the product at one index. -/
theorem outFn_apply (x0 : Vec Ideal S1 .f32) (x2 : Vec Ideal S1024x2048 .i8) (x3 : Vec Ideal S1024x256 .fp8e4m3)
    (X : Vec Ideal S128x4096 .bf16) (g : Vec Ideal S1x128 .f32) (t : Fin 128) (u : Fin 1024) :
    outFn x0 x2 x3 X g (ix2 t u) = (∑ d : Fin 4096, X (ix2 t d) * wq (wRow x2 u) (sRow x3 u) d) * g (ix2 0 t) * x0 (ix1 0) := by
  have hi : (Shape.Idx.first (by decide) : S1.Idx) = ix1 0 := by funext a; fin_cases a; rfl
  have e : outFn x0 x2 x3 X g = fun i => (∑ d : Fin 4096, X (ix2 (i 0) d) * wq (wRow x2 (i 1)) (sRow x3 (i 1)) d) * g (ix2 0 (i 0)) * x0 (ix1 0) := by
    unfold outFn
    rw [hi]
    refine canon_outPieces _ _ _ _ _ _ fun q i => ?_
    idx_vars i; rename' i0 => t, i1 => j
    rw [emb_rO]
    exact tile_at _ x2 x3 X g q t j ⟨256 * q.val + j.val, by have := q.isLt; have := j.isLt; omega⟩ rfl
  exact congrFun e (ix2 t u)

end Cert.KernelIdeal.Gen

end
-- ==== Proof.KFinal.lean ====
module

public import proofs.«01_k».proof.Proof.KFrame
public import proofs.«01_k».proof.Proof.KVal
public import proofs.«01_k».proof.Proof.KTile

/-!
The kernel's result arrays, on the extended reals, as the model of its arguments.
-/

@[expose] public section

set_option maxRecDepth 16384

noncomputable section

namespace Cert.KernelIdeal.Gen

open Idealize.ShloMosaic Idealize.ShloMosaic.TcCoe Idealize.ShloMosaic.Tactic Idealize.ShloMosaic.Pipeline
open Cert.Nv

variable (m : (ℓ : Loc nD τ sig) → Buf (Elt Ideal) ℓ)

theorem idx : ∀ t : Fin cfg0.N, win0_0.index t = ![0] ∧ win0_1.index t = ![0, 0] ∧ win0_2.index t = ![t.val, 0] ∧ win0_3.index t = ![t.val, 0]
    ∧ win0_4.index t = ![0, t.val] ∧ win0_5.index t = ![0, 0] ∧ win0_6.index t = ![0, 0] ∧ win0_7.index t = ![0, 0] :=
  (by decide +kernel : ∀ t : Fin grid0.N, _)

/-- The arguments. -/
abbrev b0 (c : Dev nD) : Vec Ideal S1x128x4096 .bf16 := m ((c.tc : Thread nD τ).loc main_arg0)
abbrev b1 (c : Dev nD) : Vec Ideal S14336x2048 .i8 := m ((c.tc : Thread nD τ).loc main_arg1)
abbrev b2 (c : Dev nD) : Vec Ideal S14336x256 .fp8e4m3 := m ((c.tc : Thread nD τ).loc main_arg2)
abbrev b3 (c : Dev nD) : Vec Ideal S1 .f32 := m ((c.tc : Thread nD τ).loc main_arg3)
/-- The activations, one row per token. -/
abbrev kact (c : Dev nD) : Acts := fun t d => b0 m c (ix3 0 t d)

theorem X1_at (c : Dev nD) : acts (X1 m c) = kact m c := by
  funext t d
  show iblk m c 1 t0_0 (ix2 t d) = m ((c.tc : Thread nD τ).loc main_arg0) (ix3 0 t d)
  blk_point [iblk, idx t0_0]

theorem B0_at (c : Dev nD) (t : Fin cfg0.N) : iblk m c 0 t = b3 m c := by
  funext y; blk_point [iblk, V, idx t]
theorem B2_at (c : Dev nD) (t : Fin cfg0.N) (u : Fin 1024) (p : Fin 2048) :
    iblk m c 2 t (ix2 u p) = b1 m c (ix2 (⟨1024 * t.val + u.val, by have := t.isLt; have h : cfg0.N = 14 := rfl; have := u.isLt; omega⟩ : Fin 14336) p) := by
  blk_point [iblk, V, idx t]
theorem B3_at (c : Dev nD) (t : Fin cfg0.N) (u : Fin 1024) (b : Fin 256) :
    iblk m c 3 t (ix2 u b) = b2 m c (ix2 (⟨1024 * t.val + u.val, by have := t.isLt; have h : cfg0.N = 14 := rfl; have := u.isLt; omega⟩ : Fin 14336) b) := by
  blk_point [iblk, V, idx t]

theorem final7 (c : Dev nD) : (dats m 0 c).arrAt 7 (cfgs 0).N
    = (fun i => gs (kact m c) (seg (i 1)) : Vec Ideal S1x128 .f32) := by
  refine (dats m 0 c).arrAt_eq_of_after_last 7 t0_13 (by decide +kernel) _ fun j => ?_
  blk_simp
  rw [after0_7, ← X1_at]
  idx_vars j
  obtain rfl : j0 = 0 := Subsingleton.elim _ _
  exact gFn_apply (X1 m c) j1

theorem final6 (c : Dev nD) : (dats m 0 c).arrAt 6 (cfgs 0).N
    = (fun i => sc (kact m c) (i 0) (i 1) : Vec Ideal S128x256 .fp8e4m3) := by
  refine (dats m 0 c).arrAt_eq_of_after_last 6 t0_13 (by decide +kernel) _ fun j => ?_
  blk_simp
  rw [after0_6, ← X1_at]
  idx_vars j
  exact sFn_apply (X1 m c) j0 j1

theorem final5 (c : Dev nD) : (dats m 0 c).arrAt 5 (cfgs 0).N
    = (fun i => code (kact m c) (i 0) (i 1) : Vec Ideal S128x2048 .i8) := by
  refine (dats m 0 c).arrAt_eq_of_after_last 5 t0_13 (by decide +kernel) _ fun j => ?_
  blk_simp
  rw [after0_5, ← X1_at]
  idx_vars j
  exact codesFn_apply (X1 m c) j0 j1

/-- One element of the block of the product that point `t` leaves: column `v` of the whole product. -/
theorem core (c : Dev nD) (t : Fin cfg0.N) (r r' : Fin 128) (u : Fin 1024) (v : Fin 14336) (hr : r'.val = r.val)
    (hv : v.val = 1024 * t.val + u.val) :
    outFn (iblk m c 0 t) (iblk m c 2 t) (iblk m c 3 t) (xqFn (X1 m c)) (gFn (X1 m c)) (ix2 r u)
      = outM (kact m c) (fun p => b1 m c (ix2 v p)) (fun b => b2 m c (ix2 v b)) (b3 m c (ix1 0)) r' := by
  obtain rfl : r' = r := Fin.ext hr
  have e2 : wRow (iblk m c 2 t) u = fun p => b1 m c (ix2 v p) := by
    funext p; refine (B2_at m c t u p).trans ?_; congr 2; exact Fin.ext hv.symm
  have e3 : sRow (iblk m c 3 t) u = fun b => b2 m c (ix2 v b) := by
    funext b; refine (B3_at m c t u b).trans ?_; congr 2; exact Fin.ext hv.symm
  rw [outFn_apply, gFn_apply, e2, e3, B0_at]
  simp only [xqFn_apply]
  rw [X1_at]
  rfl

theorem final4 (c : Dev nD) : (dats m 0 c).arrAt 4 (cfgs 0).N
    = (fun i => outM (kact m c) (fun p => b1 m c (ix2 (i 1) p)) (fun b => b2 m c (ix2 (i 1) b)) (b3 m c (ix1 0)) (i 0) : Vec Ideal S128x14336 .bf16) := by
  refine (dats m 0 c).arrAt_eq_of_covers 4 _ (by decide +kernel) fun t _ y => ?_
  blk_simp
  rw [after0_4]
  have hy : y = (ix2 (y 0) (y 1) : S128x1024.Idx) := by funext a; fin_cases a <;> rfl
  refine (congrArg (outFn (iblk m c 0 t) (iblk m c 2 t) (iblk m c 3 t) (xqFn (X1 m c)) (gFn (X1 m c))) hy).trans
    (core m c t (y 0) _ (y 1) _ ?_ ?_)
  all_goals (blk_simp [idx t] <;> try omega)

end Cert.KernelIdeal.Gen

end
-- ==== Proof.RefVal.lean ====
module

public import proofs.«01_k».proof.Proof.Gen.ReferenceIdeal.Skeleton
public import proofs.«01_k».proof.Proof.Model

/-!
What the reference computes, index by index, on the extended reals: the segment scales, the block scales, the
codes, the quantised activations and the product are those of the model.
-/

@[expose] public section

set_option maxRecDepth 16384

noncomputable section

namespace Cert.ReferenceIdeal.Gen

open Idealize.ShloMosaic Idealize.ShloMosaic.TcCoe Idealize.ShloMosaic.Tactic
open Cert.Nv

/-- The activations of the block, one row per token. -/
abbrev ract (v : Vec Ideal S1x128x4096 .bf16) : Acts := fun t d => v (ix3 0 t d)

/-- Token `b` of segment `a`. -/
abbrev tok (a : Fin 2) (b : Fin 64) : Fin 128 := ⟨a.val * 64 + b.val, by have := a.isLt; have := b.isLt; omega⟩
/-- Column `d` of block `c`. -/
abbrev col (c : Fin 256) (d : Fin 16) : Fin 4096 := ⟨c.val * 16 + d.val, by have := c.isLt; have := d.isLt; omega⟩

theorem seg_tok (a : Fin 2) (b : Fin 64) : seg (tok a b) = a :=
  Fin.ext (by have := b.isLt; show (a.val * 64 + b.val) / 64 = a.val; omega)
theorem blk_col (c : Fin 256) (d : Fin 16) : blk (col c d) = c :=
  Fin.ext (by have := d.isLt; show (c.val * 16 + d.val) / 16 = c.val; omega)

theorem pay5_at (v : Vec Ideal S1x128x4096 .bf16) (a : Fin 2) (b : Fin 64) (c : Fin 256) (d : Fin 16) :
    k0_pay5 v (ix4 a b c d) = ract v (tok a b) (col c d) := by
  pointwise [k0_pay5]

theorem pay6_at (v : Vec Ideal S1x128x4096 .bf16) (a : Fin 2) (b : Fin 64) (c : Fin 256) (d : Fin 16) :
    k0_pay6 v (ix4 a b c d) = ab (ract v (tok a b) (col c d)) := by
  pointwise [k0_pay6]
  rw [Ideal.absf_def, pay5_at]

theorem drop_at (a : Fin 2) (b : Fin 64) (c : Fin 256) (d : Fin 16) :
    reduces_S2x64x256x16_S2.drop (ix4 a b c d) = ix1 a := by
  funext x; fin_cases x; rfl

theorem max_at (v : Vec Ideal S1x128x4096 .bf16) (a : Fin 2) :
    Finset.fold max (Ideal.ofBits .f32 0xFF800000#32) (k0_pay6 (F := Ideal) v)
      (Finset.univ.filter fun i => reduces_S2x64x256x16_S2.drop i = ix1 a) = amax (ract v) a := by
  refine eq_of_forall_ge_iff fun k => ?_
  rw [Finset.fold_max_le, cBot, amax_le]
  simp only [bot_le, true_and, Finset.mem_filter, Finset.mem_univ]
  constructor
  · intro h b d
    have := h (ix4 a b (blk d) ⟨d.val % 16, Nat.mod_lt _ (by decide)⟩) (drop_at _ _ _ _)
    rw [pay6_at] at this
    have e : col (blk d) ⟨d.val % 16, Nat.mod_lt _ (by decide)⟩ = d := Fin.ext (Nat.div_add_mod' d.val 16)
    rw [e] at this; exact this
  · intro h i hi
    idx_vars i
    rw [drop_at] at hi
    have e : i0 = a := congrFun hi 0
    subst e
    rw [pay6_at]; exact h _ _

theorem pay7_at (v : Vec Ideal S1x128x4096 .bf16) (a : Fin 2) : k0_pay7 v (ix4 a 0 0 0) = gs (ract v) a := by
  have h := max_at v a
  pointwise [k0_pay7]
  rw [h]
  rfl

theorem pay8_at (v : Vec Ideal S1x128x4096 .bf16) (a : Fin 2) (b : Fin 64) (c : Fin 256) :
    k0_pay8 v (ix4 a b c 0) = sc (ract v) (tok a b) c := by
  pointwise [k0_pay8]
  simp only [pay6_at, pay7_at]
  unfold sc
  rw [seg_tok]
  rfl

theorem pay9_at (v : Vec Ideal S1x128x4096 .bf16) (a : Fin 2) (b : Fin 64) (c : Fin 256) (d : Fin 16) :
    k0_pay9 v (ix4 a b c d) = aq (ract v) (tok a b) (col c d) := by
  pointwise [k0_pay9]
  simp only [pay6_at, pay7_at, pay8_at]
  unfold aq den
  rw [seg_tok, blk_col]

/-- The codes. -/
abbrev rnib (v : Vec Ideal S1x128x4096 .bf16) : IVec S128x2048x2 32 := k0_pay12 (k0_pay5 v) (k0_pay9 v) (k0_pay10 v) (k0_pay11 v)

theorem nib_at (v : Vec Ideal S1x128x4096 .bf16) (t : Fin 128) (p : Fin 2048) (e : Fin 2) :
    rnib v (ix3 t p e) = nib (ract v) t ⟨p.val * 2 + e.val, by have := p.isLt; have := e.isLt; omega⟩ := by
  unfold rnib
  pointwise [k0_pay12, k0_pay10, k0_pay11]
  simp only [pay5_at, pay9_at]
  have ht : tok ⟨t.val / 64, by have := t.isLt; omega⟩ ⟨t.val % 64, Nat.mod_lt _ (by decide)⟩ = t := Fin.ext (Nat.div_add_mod' t.val 64)
  have hc : col ⟨p.val / 8, by have := p.isLt; omega⟩ ⟨p.val % 8 * 2 + e.val, by have := e.isLt; omega⟩
      = ⟨p.val * 2 + e.val, by have := p.isLt; have := e.isLt; omega⟩ := Fin.ext (by show p.val / 8 * 16 + (p.val % 8 * 2 + e.val) = _; simp; omega)
  rw [ht, hc]
  rfl

end Cert.ReferenceIdeal.Gen

end
-- ==== Proof.RefOut.lean ====
module

public import proofs.«01_k».proof.Proof.RefVal

/-!
The reference's four results, index by index, on the extended reals: those of the model.
-/

@[expose] public section

set_option maxRecDepth 16384

noncomputable section

namespace Cert.ReferenceIdeal.Gen

open Idealize.ShloMosaic Idealize.ShloMosaic.TcCoe Idealize.ShloMosaic.Tactic
open Cert.Nv

/-- The codes of the even columns, and of the odd columns. -/
abbrev rlo (v : Vec Ideal S1x128x4096 .bf16) : IVec S128x2048 32 := k0_pay13 (k0_pay5 v) (k0_pay9 v) (k0_pay10 v) (k0_pay11 v)
abbrev rhi (v : Vec Ideal S1x128x4096 .bf16) : IVec S128x2048 32 := k0_pay14 (k0_pay5 v) (k0_pay9 v) (k0_pay10 v) (k0_pay11 v)
/-- The block scales, one row per token. -/
abbrev rs (v : Vec Ideal S1x128x4096 .bf16) : FVec Ideal S128x256 .fp8e4m3 := k0_pay15 (k0_pay8 v)

theorem rlo_at (v : Vec Ideal S1x128x4096 .bf16) (t : Fin 128) (p : Fin 2048) : rlo v (ix2 t p) = nib (ract v) t (ev p) := by
  have h := nib_at v t p 0
  unfold rnib at h
  pointwise [k0_pay13]
  exact h

theorem rhi_at (v : Vec Ideal S1x128x4096 .bf16) (t : Fin 128) (p : Fin 2048) : rhi v (ix2 t p) = nib (ract v) t (od p) := by
  have h := nib_at v t p 1
  unfold rnib at h
  pointwise [k0_pay14]
  exact h

theorem rs_at (v : Vec Ideal S1x128x4096 .bf16) (t : Fin 128) (b : Fin 256) : rs v (ix2 t b) = sc (ract v) t b := by
  have ht : tok ⟨t.val / 64, by have := t.isLt; omega⟩ ⟨t.val % 64, Nat.mod_lt _ (by decide)⟩ = t := Fin.ext (Nat.div_add_mod' t.val 64)
  have h := pay8_at v ⟨t.val / 64, by have := t.isLt; omega⟩ ⟨t.val % 64, Nat.mod_lt _ (by decide)⟩ b
  rw [ht] at h
  pointwise [k0_pay15]
  exact h

theorem rg_at (v : Vec Ideal S1x128x4096 .bf16) (t : Fin 128) : k0_pay4 (k0_pay32 (k0_pay7 v)) (ix2 0 t) = gs (ract v) (seg t) := by
  have h := pay7_at v (seg t)
  pointwise [k0_pay4, k0_pay1, k0_pay32]
  exact h

theorem rcode_at (v : Vec Ideal S1x128x4096 .bf16) (t : Fin 128) (p : Fin 2048) :
    k0_pay3 (rlo v) (rhi v) (ix2 t p) = code (ract v) t p := by
  have h0 := rlo_at v t p
  have h1 := rhi_at v t p
  generalize rlo v = a at h0 ⊢
  generalize rhi v = b at h1 ⊢
  pointwise [k0_pay3]
  rw [h0, h1]
  rfl

/-- A number's code and its block's scale give the quantised number. -/
theorem xq_dec (X : Acts) (t : Fin 128) (d : Fin 4096) (b : Fin 256) (h : b = blk d) :
    dec (nib X t d) * sc X t b = xq X t d := by
  subst h; unfold xq nib; rw [dec_nibR]

theorem rxlo_at (v : Vec Ideal S1x128x4096 .bf16) (t : Fin 128) (p : Fin 2048) :
    k0_pay19 (rlo v) (rs v) (k0_pay16 (k0_pay5 v) (k0_pay9 v) (k0_pay10 v) (k0_pay11 v))
      (k0_pay17 (k0_pay5 v) (k0_pay9 v) (k0_pay10 v) (k0_pay11 v)) (k0_pay18 (k0_pay5 v) (k0_pay9 v) (k0_pay10 v) (k0_pay11 v)) 0#32 (ix2 t p)
      = xq (ract v) t (ev p) := by
  have h0 := rlo_at v t p
  have h1 := rs_at v t ⟨p.val / 8, by have := p.isLt; omega⟩
  unfold rlo at h0 ⊢
  unfold k0_pay16 k0_pay17 k0_pay18
  generalize k0_pay13 (k0_pay5 v) (k0_pay9 v) (k0_pay10 v) (k0_pay11 v) = a at h0 ⊢
  generalize rs v = b at h1 ⊢
  refine Eq.trans (b := dec (a (ix2 t p)) * b (ix2 t ⟨p.val / 8, by have := p.isLt; omega⟩)) ?_ ?_
  · pointwise [k0_pay19]; rfl
  · rw [h0, h1]
    exact xq_dec _ _ _ _ (Fin.ext (by show p.val / 8 = p.val * 2 / 16; omega))

theorem rxhi_at (v : Vec Ideal S1x128x4096 .bf16) (t : Fin 128) (p : Fin 2048) :
    k0_pay23 (rhi v) (rs v) (k0_pay20 (rhi v)) (k0_pay21 (rhi v)) (k0_pay22 (rhi v)) (ix2 t p)
      = xq (ract v) t (od p) := by
  have h0 := rhi_at v t p
  have h1 := rs_at v t ⟨p.val / 8, by have := p.isLt; omega⟩
  generalize rhi v = a at h0 ⊢
  generalize rs v = b at h1 ⊢
  refine Eq.trans (b := dec (a (ix2 t p)) * b (ix2 t ⟨p.val / 8, by have := p.isLt; omega⟩)) ?_ ?_
  · pointwise [k0_pay23, k0_pay20, k0_pay21, k0_pay22]; rfl
  · rw [h0, h1]
    exact xq_dec _ _ _ _ (Fin.ext (by show p.val / 8 = (p.val * 2 + 1) / 16; omega))

theorem rwlo_at (w : Vec Ideal S14336x2048 .i8) (s : Vec Ideal S14336x256 .fp8e4m3) (a : Fin 14336) (p : Fin 2048) :
    k0_pay28 (k0_pay25 w) s (k0_pay26 w) (k0_pay27 w) 0#32 (ix2 a p)
      = dec (lo (w (ix2 a p))) * s (ix2 a ⟨p.val / 8, by have := p.isLt; omega⟩) := by
  pointwise [k0_pay28, k0_pay25, k0_pay26, k0_pay27, k0_pay24]
  rfl

/-- The two sums over pairs, whatever the activations and the low halves' numbers. -/
theorem racc_at (x y : FVec Ideal S128x2048 .bf16) (z : FVec Ideal S14336x2048 .bf16)
    (w : Vec Ideal S14336x2048 .i8) (s : Vec Ideal S14336x256 .fp8e4m3) (t : Fin 128) (a : Fin 14336) :
    k0_pay31 x y z (k0_pay29 (k0_pay24 w)) s (k0_pay30 (k0_pay24 w)) (ix2 t a)
      = (∑ p : Fin 2048, x (ix2 t p) * z (ix2 a p))
        + ∑ p : Fin 2048, y (ix2 t p) * (dec (hi (w (ix2 a p))) * s (ix2 a ⟨p.val / 8, by have := p.isLt; omega⟩)) := by
  pointwise [k0_pay31, k0_pay29, k0_pay30, k0_pay24]
  rfl

/-- The product before the scales. -/
abbrev racc (v : Vec Ideal S1x128x4096 .bf16) (w : Vec Ideal S14336x2048 .i8) (s : Vec Ideal S14336x256 .fp8e4m3) : FVec Ideal S128x14336 .f32 :=
  k0_pay31 (k0_pay19 (rlo v) (rs v) (k0_pay16 (k0_pay5 v) (k0_pay9 v) (k0_pay10 v) (k0_pay11 v))
      (k0_pay17 (k0_pay5 v) (k0_pay9 v) (k0_pay10 v) (k0_pay11 v)) (k0_pay18 (k0_pay5 v) (k0_pay9 v) (k0_pay10 v) (k0_pay11 v)) 0#32)
    (k0_pay23 (rhi v) (rs v) (k0_pay20 (rhi v)) (k0_pay21 (rhi v)) (k0_pay22 (rhi v)))
    (k0_pay28 (k0_pay25 w) s (k0_pay26 w) (k0_pay27 w) 0#32)
    (k0_pay29 (k0_pay24 w)) s (k0_pay30 (k0_pay24 w))

theorem racc_eq (v : Vec Ideal S1x128x4096 .bf16) (w : Vec Ideal S14336x2048 .i8) (s : Vec Ideal S14336x256 .fp8e4m3)
    (t : Fin 128) (a : Fin 14336) :
    racc v w s (ix2 t a) = ∑ d : Fin 4096, xq (ract v) t d * wq (fun p => w (ix2 a p)) (fun b => s (ix2 a b)) d := by
  unfold racc
  rw [racc_at]
  simp only [rxlo_at, rxhi_at, rwlo_at]
  exact outR (ract v) (fun p => w (ix2 a p)) (fun b => s (ix2 a b)) t

theorem rout_at (v : Vec Ideal S1x128x4096 .bf16) (w : Vec Ideal S14336x2048 .i8) (s : Vec Ideal S14336x256 .fp8e4m3) (wg : EReal)
    (t : Fin 128) (a : Fin 14336) :
    k0_pay2 (F := Ideal) (racc v w s) (k0_pay32 (k0_pay7 v)) wg (ix2 t a)
      = outM (ract v) (fun p => w (ix2 a p)) (fun b => s (ix2 a b)) wg t := by
  have h := racc_eq v w s t a
  have hg := pay7_at v (seg t)
  unfold outM
  rw [← h, ← hg]
  generalize racc v w s = r
  pointwise [k0_pay2, k0_pay1, k0_pay32]

end Cert.ReferenceIdeal.Gen

end
-- ==== Proof.RefFinal.lean ====
module

public import proofs.«01_k».proof.Proof.Gen.ReferenceIdeal.Frame
public import proofs.«01_k».proof.Proof.RefOut

/-!
The reference's result arrays, on the extended reals, as the model of its arguments.
-/

@[expose] public section

set_option maxRecDepth 16384

noncomputable section

namespace Cert.ReferenceIdeal.Gen

open Idealize.ShloMosaic Idealize.ShloMosaic.TcCoe Idealize.ShloMosaic.Tactic Idealize.ShloMosaic.Pipeline
open Cert.Nv

variable (m : (ℓ : Loc nD τ sig) → Buf (Elt Ideal) ℓ)

theorem idx : ∀ t : Fin cfg0.N, win0_0.index t = ![0, 0, 0] ∧ win0_1.index t = ![0, 0] ∧ win0_2.index t = ![0, 0] ∧ win0_3.index t = ![0]
    ∧ win0_4.index t = ![0, 0] ∧ win0_5.index t = ![0, 0] ∧ win0_6.index t = ![0, 0] ∧ win0_7.index t = ![0, 0] :=
  (by decide +kernel : ∀ t : Fin grid0.N, _)

/-- The arguments. -/
abbrev a0 (c : Dev nD) : Vec Ideal S1x128x4096 .bf16 := m ((c.tc : Thread nD τ).loc main_arg0)
abbrev a1 (c : Dev nD) : Vec Ideal S14336x2048 .i8 := m ((c.tc : Thread nD τ).loc main_arg1)
abbrev a2 (c : Dev nD) : Vec Ideal S14336x256 .fp8e4m3 := m ((c.tc : Thread nD τ).loc main_arg2)
abbrev a3 (c : Dev nD) : Vec Ideal S1 .f32 := m ((c.tc : Thread nD τ).loc main_arg3)

theorem blk0 (c : Dev nD) (t : Fin cfg0.N) : iblk m c 0 t = a0 m c := by
  funext y; blk_point [iblk, V, idx t]
theorem blk1 (c : Dev nD) (t : Fin cfg0.N) : iblk m c 1 t = a1 m c := by
  funext y; blk_point [iblk, V, idx t]
theorem blk2 (c : Dev nD) (t : Fin cfg0.N) : iblk m c 2 t = a2 m c := by
  funext y; blk_point [iblk, V, idx t]
theorem blk3 (c : Dev nD) (t : Fin cfg0.N) : iblk m c 3 t = a3 m c := by
  funext y; blk_point [iblk, V, idx t]

/-- Reading a buffer that holds `x` gives `x`. -/
theorem rd0 (x : Vec Ideal S1x128x4096 .bf16) :
    View.read (Elt Ideal) (View.whole cc0_stg0_0 : View sig .tc .vmem S1x128x4096 .bf16) ((hs0_0 t0_0).unread x) = x := (hs0_0 t0_0).read_unread x

theorem rd1 (x : Vec Ideal S14336x2048 .i8) :
    View.read (Elt Ideal) (View.whole cc0_stg1_0 : View sig .tc .vmem S14336x2048 .i8) ((hs0_1 t0_0).unread x) = x := (hs0_1 t0_0).read_unread x
theorem rd2 (x : Vec Ideal S14336x256 .fp8e4m3) :
    View.read (Elt Ideal) (View.whole cc0_stg2_0 : View sig .tc .vmem S14336x256 .fp8e4m3) ((hs0_2 t0_0).unread x) = x := (hs0_2 t0_0).read_unread x
theorem rd3 (x : Vec Ideal S1 .f32) :
    View.read (Elt Ideal) (View.whole cc0_stg3_0 : View sig .tc .smem S1 .f32) ((hs0_3 t0_0).unread x) = x := (hs0_3 t0_0).read_unread x

theorem one_ix (i : S1.Idx) : i = ix1 0 := by
  idx_vars i
  obtain rfl : i0 = 0 := Subsingleton.elim _ _
  rfl

theorem final7 (c : Dev nD) : (dats m 0 c).arrAt 7 (cfgs 0).N
    = (fun i => gs (ract (a0 m c)) (seg (i 1)) : Vec Ideal S1x128 .f32) := by
  refine (dats m 0 c).arrAt_eq_of_after_last 7 t0_0 (by decide +kernel) _ fun j => ?_
  blk_simp
  rw [after0_7]
  frame_out
  simp only [blk0]
  idx_vars j
  rw [rd0]
  obtain rfl : j0 = 0 := Subsingleton.elim _ _
  exact rg_at (a0 m c) j1

theorem final6 (c : Dev nD) : (dats m 0 c).arrAt 6 (cfgs 0).N
    = (fun i => sc (ract (a0 m c)) (i 0) (i 1) : Vec Ideal S128x256 .fp8e4m3) := by
  refine (dats m 0 c).arrAt_eq_of_after_last 6 t0_0 (by decide +kernel) _ fun j => ?_
  blk_simp
  rw [after0_6]
  frame_out
  simp only [blk0]
  idx_vars j
  rw [rd0]
  exact rs_at (a0 m c) j0 j1

theorem final5 (c : Dev nD) : (dats m 0 c).arrAt 5 (cfgs 0).N
    = (fun i => code (ract (a0 m c)) (i 0) (i 1) : Vec Ideal S128x2048 .i8) := by
  refine (dats m 0 c).arrAt_eq_of_after_last 5 t0_0 (by decide +kernel) _ fun j => ?_
  blk_simp
  rw [after0_5]
  frame_out
  simp only [blk0]
  idx_vars j
  simp only [rd0]
  exact rcode_at (a0 m c) j0 j1

theorem final4 (c : Dev nD) : (dats m 0 c).arrAt 4 (cfgs 0).N
    = (fun i => outM (ract (a0 m c)) (fun p => a1 m c (ix2 (i 1) p)) (fun b => a2 m c (ix2 (i 1) b)) (a3 m c (ix1 0)) (i 0) : Vec Ideal S128x14336 .bf16) := by
  refine (dats m 0 c).arrAt_eq_of_after_last 4 t0_0 (by decide +kernel) _ fun j => ?_
  blk_simp
  rw [after0_4]
  unfold outsAt0
  frame_out
  simp only [blk0, blk1, blk2, blk3]
  idx_vars j
  simp only [rd0, rd1, rd2, rd3]
  exact (rout_at (a0 m c) (a1 m c) (a2 m c) (a3 m c (Shape.Idx.first _)) j0 j1).trans (by rw [one_ix (Shape.Idx.first _)])

end Cert.ReferenceIdeal.Gen

end
-- ==== Proof.Value.lean ====
module

public import proofs.«01_k».proof.Defs
public import proofs.«01_k».proof.Proof.KFinal
public import proofs.«01_k».proof.Proof.RefFinal

/-!
The value claim: on the extended reals the kernel and the reference leave the same four results.
-/

@[expose] public section

set_option maxRecDepth 16384

noncomputable section

namespace Cert.Proof

open Idealize.ShloMosaic Idealize.ShloMosaic.TcCoe Idealize.SL.Sem

/-- The arguments of the two programs, as the models name them, agree. -/
theorem agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (h : ∀ c : Dev KernelIdeal.nD,
      m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3))
    (c : Dev KernelIdeal.nD) :
    ReferenceIdeal.Gen.a0 m' c = KernelIdeal.Gen.b0 m c ∧ ReferenceIdeal.Gen.a1 m' c = KernelIdeal.Gen.b1 m c
      ∧ ReferenceIdeal.Gen.a2 m' c = KernelIdeal.Gen.b2 m c ∧ ReferenceIdeal.Gen.a3 m' c = KernelIdeal.Gen.b3 m c := h c

/-- From memories that agree on the arguments both programs run to the same four results. -/
theorem algebraic : Cert.algebraic_KernelIdeal_ReferenceIdeal
    (hKernelIdeal := Cert.KernelIdeal.Gen.facts) (hReferenceIdeal := Cert.ReferenceIdeal.Gen.facts) := by
  pair_intro
  · run_from Cert.KernelIdeal.Gen.run_main m g
  · run_from Cert.ReferenceIdeal.Gen.run_main m' g'
    · obtain ⟨h0, h1, h2, h3⟩ := agree m m' hagree c
      refine (Cert.ReferenceIdeal.Gen.final4 m' c).trans (Eq.trans ?_ (Cert.KernelIdeal.Gen.final4 m c).symm)
      rw [h0, h1, h2, h3]
    · obtain ⟨h0, -⟩ := agree m m' hagree c
      refine (Cert.ReferenceIdeal.Gen.final5 m' c).trans (Eq.trans ?_ (Cert.KernelIdeal.Gen.final5 m c).symm)
      rw [h0]
    · obtain ⟨h0, -⟩ := agree m m' hagree c
      refine (Cert.ReferenceIdeal.Gen.final6 m' c).trans (Eq.trans ?_ (Cert.KernelIdeal.Gen.final6 m c).symm)
      rw [h0]
    · obtain ⟨h0, -⟩ := agree m m' hagree c
      refine (Cert.ReferenceIdeal.Gen.final7 m' c).trans (Eq.trans ?_ (Cert.KernelIdeal.Gen.final7 m c).symm)
      rw [h0]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KFrame
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  quiescent_kernel, fun m ρ _ => Cert.KernelIdeal.Gen.frame m ρ,
  fun m ρ _ => Cert.ReferenceIdeal.Gen.frame m ρ, trivial, algebraic⟩

end Cert.Proof

end
